-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S28x16x2x512 Cert.KernelIdeal.S28x16x1x512
  ∧ IdealRules.bf16_pair.PackStatement Cert.KernelIdeal.S16x512
  ∧ IdealRules.bf16_pair.Statement Cert.KernelIdeal.S1x16x2x512 Cert.KernelIdeal.S1x16x1x512
  ∧ IdealRules.bf16_pair.Statement Cert.KernelIdeal.S1x16x2x256 Cert.KernelIdeal.S1x16x1x256
  ∧ IdealRules.bf16_pair.Statement Cert.KernelIdeal.S32x256 Cert.KernelIdeal.S16x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x7168 : Shape := ⟨3, ![192, 1, 7168]⟩
abbrev S20480x28x128 : Shape := ⟨3, ![20480, 28, 128]⟩
abbrev S20480x28x64 : Shape := ⟨3, ![20480, 28, 64]⟩
abbrev S20480x28x16 : Shape := ⟨3, ![20480, 28, 16]⟩
abbrev S20480x28 : Shape := ⟨2, ![20480, 28]⟩
abbrev S192x7168 : Shape := ⟨2, ![192, 7168]⟩
abbrev S28x20480x128 : Shape := ⟨3, ![28, 20480, 128]⟩
abbrev S28x64x20480 : Shape := ⟨3, ![28, 64, 20480]⟩
abbrev S28x16x20480 : Shape := ⟨3, ![28, 16, 20480]⟩
abbrev S28x20480 : Shape := ⟨2, ![28, 20480]⟩
abbrev S192x20480 : Shape := ⟨2, ![192, 20480]⟩
abbrev S28x512x128 : Shape := ⟨3, ![28, 512, 128]⟩
abbrev S28x64x512 : Shape := ⟨3, ![28, 64, 512]⟩
abbrev S28x16x512 : Shape := ⟨3, ![28, 16, 512]⟩
abbrev S28x512 : Shape := ⟨2, ![28, 512]⟩
abbrev S192x512 : Shape := ⟨2, ![192, 512]⟩
abbrev S14x512 : Shape := ⟨2, ![14, 512]⟩
abbrev S1x512 : Shape := ⟨2, ![1, 512]⟩
abbrev S1x16x512 : Shape := ⟨3, ![1, 16, 512]⟩
abbrev S16x512 : Shape := ⟨2, ![16, 512]⟩
abbrev S1x64x256 : Shape := ⟨3, ![1, 64, 256]⟩
abbrev S64x256 : Shape := ⟨2, ![64, 256]⟩
abbrev S16x256 : Shape := ⟨2, ![16, 256]⟩
abbrev S1x256x128 : Shape := ⟨3, ![1, 256, 128]⟩
abbrev S256x128 : Shape := ⟨2, ![256, 128]⟩
abbrev S128x256 : Shape := ⟨2, ![128, 256]⟩
abbrev S32x256 : Shape := ⟨2, ![32, 256]⟩
abbrev S1x16x256 : Shape := ⟨3, ![1, 16, 256]⟩
abbrev S1x256 : Shape := ⟨2, ![1, 256]⟩
abbrev S256x256 : Shape := ⟨2, ![256, 256]⟩
abbrev S192x256 : Shape := ⟨2, ![192, 256]⟩

abbrev nBuf : Space → Nat
  | .hbm => 11
  | .vmem => 12
  | .smem => 0
  | _ => 0

abbrev bufTy : (tb : Table) → Fin (tcTables nBuf tb) → BufTy
  | .hbm, ⟨0, _⟩ => ⟨S192x1x7168, .bf16⟩
  | .hbm, ⟨1, _⟩ => ⟨S20480x28x128, .i8⟩
  | .hbm, ⟨2, _⟩ => ⟨S20480x28x64, .i8⟩
  | .hbm, ⟨3, _⟩ => ⟨S20480x28x16, .i8⟩
  | .hbm, ⟨4, _⟩ => ⟨S20480x28, .i16⟩
  | .hbm, ⟨5, _⟩ => ⟨S192x7168, .bf16⟩
  | .hbm, ⟨6, _⟩ => ⟨S28x20480x128, .i8⟩
  | .hbm, ⟨7, _⟩ => ⟨S28x64x20480, .i8⟩
  | .hbm, ⟨8, _⟩ => ⟨S28x16x20480, .i8⟩
  | .hbm, ⟨9, _⟩ => ⟨S28x20480, .i16⟩
  | .hbm, ⟨10, _⟩ => ⟨S192x20480, .bf16⟩
  | .local _ .vmem, ⟨0, _⟩ => ⟨S192x7168, .bf16⟩
  | .local _ .vmem, ⟨1, _⟩ => ⟨S28x512x128, .i8⟩
  | .local _ .vmem, ⟨2, _⟩ => ⟨S28x512x128, .i8⟩
  | .local _ .vmem, ⟨3, _⟩ => ⟨S28x64x512, .i8⟩
  | .local _ .vmem, ⟨4, _⟩ => ⟨S28x64x512, .i8⟩
  | .local _ .vmem, ⟨5, _⟩ => ⟨S28x16x512, .i8⟩
  | .local _ .vmem, ⟨6, _⟩ => ⟨S28x16x512, .i8⟩
  | .local _ .vmem, ⟨7, _⟩ => ⟨S28x512, .i16⟩
  | .local _ .vmem, ⟨8, _⟩ => ⟨S28x512, .i16⟩
  | .local _ .vmem, ⟨9, _⟩ => ⟨S192x512, .bf16⟩
  | .local _ .vmem, ⟨10, _⟩ => ⟨S192x512, .bf16⟩
  | .local _ .vmem, ⟨11, _⟩ => ⟨S28x16x512, .i32⟩
  | _, _ => ⟨S192x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S28x512x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x64x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S28x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S28x512 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S28x16x2x512 : Shape := ⟨4, ![28, 16, 2, 512]⟩
abbrev S28x16x1x512 : Shape := ⟨4, ![28, 16, 1, 512]⟩
abbrev S1x16x2x512 : Shape := ⟨4, ![1, 16, 2, 512]⟩
abbrev S1x16x1x512 : Shape := ⟨4, ![1, 16, 1, 512]⟩
abbrev S1x16x2x256 : Shape := ⟨4, ![1, 16, 2, 256]⟩
abbrev S1x16x1x256 : Shape := ⟨4, ![1, 16, 1, 256]⟩
  | .local _ .vmem, ⟨11, _⟩ => ⟨S28x16x2x512, .bf16⟩
variable {F : FTy → Type} [FloatOps F]
-- ==== ReferenceIdeal.lean ====
abbrev S192x1x7168 : Shape := ⟨3, ![192, 1, 7168]⟩
abbrev S20480x28x128 : Shape := ⟨3, ![20480, 28, 128]⟩
abbrev S20480x28x64 : Shape := ⟨3, ![20480, 28, 64]⟩
abbrev S20480x28x16 : Shape := ⟨3, ![20480, 28, 16]⟩
abbrev S20480x28 : Shape := ⟨2, ![20480, 28]⟩
abbrev S4 : Shape := ⟨1, ![4]⟩
abbrev S_ : Shape := ⟨0, ![]⟩
abbrev S1x1x4x1 : Shape := ⟨4, ![1, 1, 4, 1]⟩
abbrev S20480x28x1x64 : Shape := ⟨4, ![20480, 28, 1, 64]⟩
abbrev S20480x28x4x64 : Shape := ⟨4, ![20480, 28, 4, 64]⟩
abbrev S20480x28x2x64 : Shape := ⟨4, ![20480, 28, 2, 64]⟩
abbrev S192x1x28x2x128 : Shape := ⟨5, ![192, 1, 28, 2, 128]⟩
abbrev S192x1x28x1x128 : Shape := ⟨5, ![192, 1, 28, 1, 128]⟩
abbrev S192x1x28x128 : Shape := ⟨4, ![192, 1, 28, 128]⟩
abbrev S192x20480 : Shape := ⟨2, ![192, 20480]⟩
abbrev S20480x28x1 : Shape := ⟨3, ![20480, 28, 1]⟩
abbrev S20480x28x8x16 : Shape := ⟨4, ![20480, 28, 8, 16]⟩
abbrev S20480x28x8 : Shape := ⟨3, ![20480, 28, 8]⟩
abbrev S20480x28x8x1 : Shape := ⟨4, ![20480, 28, 8, 1]⟩
abbrev S192x1x20480 : Shape := ⟨3, ![192, 1, 20480]⟩

abbrev nBuf : Space → Nat
  | .hbm => 40
  | .vmem => 7
  | .smem => 0
  | _ => 0

abbrev bufTy : (tb : Table) → Fin (tcTables nBuf tb) → BufTy
  | .hbm, ⟨0, _⟩ => ⟨S192x1x7168, .bf16⟩
  | .hbm, ⟨1, _⟩ => ⟨S20480x28x128, .i8⟩
  | .hbm, ⟨2, _⟩ => ⟨S20480x28x64, .i8⟩
  | .hbm, ⟨3, _⟩ => ⟨S20480x28x16, .i8⟩
  | .hbm, ⟨4, _⟩ => ⟨S20480x28, .i16⟩
  | .hbm, ⟨5, _⟩ => ⟨S20480x28x128, .i32⟩
  | .hbm, ⟨6, _⟩ => ⟨S20480x28x64, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S1x1x4x1, .i32⟩
  | .hbm, ⟨12, _⟩ => ⟨S20480x28x1x64, .i32⟩
  | .hbm, ⟨13, _⟩ => ⟨S20480x28x4x64, .i32⟩
  | .hbm, ⟨14, _⟩ => ⟨S20480x28x4x64, .i32⟩
  | .hbm, ⟨15, _⟩ => ⟨S20480x28x4x64, .i32⟩
  | .hbm, ⟨16, _⟩ => ⟨S_, .i32⟩
  | .hbm, ⟨17, _⟩ => ⟨S20480x28x4x64, .i32⟩
  | .hbm, ⟨18, _⟩ => ⟨S20480x28x4x64, .i32⟩
  | .hbm, ⟨19, _⟩ => ⟨S_, .i32⟩
  | .hbm, ⟨20, _⟩ => ⟨S20480x28x4x64, .i32⟩
  | .hbm, ⟨21, _⟩ => ⟨S20480x28x4x64, .i32⟩
  | .hbm, ⟨22, _⟩ => ⟨S_, .i32⟩
  | .hbm, ⟨23, _⟩ => ⟨S20480x28x128, .i32⟩
  | .hbm, ⟨24, _⟩ => ⟨S20480x28x128, .i32⟩
  | .hbm, ⟨25, _⟩ => ⟨S20480x28x2x64, .i32⟩
  | .hbm, ⟨26, _⟩ => ⟨S20480x28x128, .i32⟩
  | .hbm, ⟨27, _⟩ => ⟨S20480x28x128, .i32⟩
  | .hbm, ⟨28, _⟩ => ⟨S_, .i32⟩
  | .hbm, ⟨29, _⟩ => ⟨S20480x28x128, .i32⟩
  | .hbm, ⟨30, _⟩ => ⟨S20480x28x128, .i32⟩
  | .hbm, ⟨31, _⟩ => ⟨S20480x28x2x64, .i32⟩
  | .hbm, ⟨32, _⟩ => ⟨S20480x28x128, .i32⟩
  | .hbm, ⟨33, _⟩ => ⟨S20480x28x128, .i32⟩
  | .hbm, ⟨34, _⟩ => ⟨S192x1x28x2x128, .bf16⟩
  | .hbm, ⟨35, _⟩ => ⟨S192x1x28x1x128, .bf16⟩
  | .hbm, ⟨36, _⟩ => ⟨S192x1x28x128, .bf16⟩
  | .hbm, ⟨37, _⟩ => ⟨S192x1x28x1x128, .bf16⟩
  | .hbm, ⟨38, _⟩ => ⟨S192x1x28x128, .bf16⟩
  | .hbm, ⟨39, _⟩ => ⟨S192x20480, .bf16⟩
  | .local _ .vmem, ⟨0, _⟩ => ⟨S192x1x28x128, .bf16⟩
  | .local _ .vmem, ⟨1, _⟩ => ⟨S192x1x28x128, .bf16⟩
  | .local _ .vmem, ⟨2, _⟩ => ⟨S20480x28x128, .i32⟩
  | .local _ .vmem, ⟨3, _⟩ => ⟨S20480x28x128, .i32⟩
  | .local _ .vmem, ⟨4, _⟩ => ⟨S20480x28x16, .i8⟩
  | .local _ .vmem, ⟨5, _⟩ => ⟨S20480x28, .i16⟩
  | .local _ .vmem, ⟨6, _⟩ => ⟨S192x20480, .bf16⟩
  | _, _ => ⟨S192x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S192x1x28x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x1x28x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20480x28x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20480x28x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20480x28x16 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20480x28 .i16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S192x20480 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Claims.lean ====
/- The frames and the `preserves` claim: that each program leaves its arguments and its semaphores as it found them, and
   the ledger of the kernel's idealization. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import Idealize.ShloMosaic.Lib.Bf16PairInverse
public import Idealize.ShloMosaic.Lib.Quiescent

@[expose] public section

noncomputable section

open Idealize.ShloMosaic Idealize.SL.Sem

namespace Cert.Proof

/-- The kernel runs to its end, leaves its arguments unchanged and every semaphore at zero. -/
theorem frame_p : Cert.quiescent_Kernel := fun m ρ _ => Cert.Kernel.Gen.frame m ρ

/-- So does the kernel's idealization. -/
theorem frame_pi : Cert.quiescent_KernelIdeal := fun m ρ _ => Cert.KernelIdeal.Gen.frame m ρ

/-- So does the reference, at the ideal instance. -/
theorem frame_ri : Cert.quiescent_ReferenceIdeal := fun m ρ _ => Cert.ReferenceIdeal.Gen.frame m ρ

/-- The ledger's distinct statements: the scratch of words declared as bf16 pairs; the pack of the scales; the rows
    stored for one superblock; the rows loaded back for one column tile; the loaded words read as bf16 rows. -/
theorem preserves : Cert.preserves_Kernel_KernelIdeal :=
  open Cert.KernelIdeal IdealRules.bf16_pair in
  ⟨bufferStatement S28x16x2x512 S28x16x1x512, packStatement S16x512, statement S1x16x2x512 S1x16x1x512,
    statement S1x16x2x256 S1x16x1x256, statement S32x256 S16x256⟩

end Cert.Proof

end
-- ==== Proof.Stages.lean ====
/- What one grid point of the kernel computes, as a recursion over the 28 superblocks: the operations are the printed
   body's, the superblock and the column tile are parameters. Pieces.lean says that the run's
   pieces are these. -/
module

public import proofs.«01_k».proof.Proof.Gen.KernelIdeal.Frame

@[expose] public section

noncomputable section

namespace Cert.KernelIdeal.Stages

open Cert.KernelIdeal Cert.KernelIdeal.Gen Idealize.ShloMosaic Idealize.ShloMosaic.TcCoe

variable {F : FTy → Type} [FloatOps F]

/-- A block of float16 bit patterns, one per word's low half, as float32. -/
def decode (w : IVec S14x512 32) : FVec F S14x512 .f32 :=
  let mag := shli (andi w (broadcast S14x512 32767#32)) (broadcast S14x512 13#32)
  let exp := andi w (broadcast S14x512 31744#32)
  let normal := addi mag (select (cmpi .eq exp (broadcast S14x512 31744#32)) (broadcast S14x512 1879048192#32)
    (broadcast S14x512 939524096#32))
  let tiny : FVec F S14x512 .f32 := subf (bitcastToFloat .f32 (addi mag (broadcast S14x512 947912704#32)))
    (broadcast S14x512 (Scalar.ofBits .f32 0x38800000#32))
  let sign := andi w (broadcast S14x512 32768#32)
  select (cmpi .eq exp (broadcast S14x512 0#32))
    (mulf tiny (select (cmpi .ne sign (broadcast S14x512 0#32)) (broadcast S14x512 (Scalar.ofBits .f32 0xBF800000#32))
      (broadcast S14x512 (Scalar.ofBits .f32 0x3F800000#32))))
    (bitcastToFloat .f32 (ori normal (shli sign (broadcast S14x512 16#32))))

/-- The scales' bit patterns, two superblocks to a word. -/
def words (d : Vec F S28x512 .i16) : IVec S14x512 32 :=
  shapeCast S14x512 (bitcast S14x512 32 d bitcasts_S28x512_w16_S14x512_w32) shapeCasts_S14x512_S14x512

/-- The patterns of the even superblocks, or of the odd ones, one per word's low half. -/
def half (p : Nat) (w : IVec S14x512 32) : IVec S14x512 32 :=
  match p with
  | 0 => andi w (broadcast S14x512 65535#32)
  | _ => shrui w (broadcast S14x512 16#32)

/-- A row of the decoded scales lies inside their block. -/
theorem slices_row (j : Nat) (h : j < 14) : S14x512.Slices ![j, 0] S1x512 :=
  ⟨rfl, fun a => by fin_cases a; exacts [h, Nat.le_refl 512]⟩

/-- The scales of one superblock's sixteen sub-blocks, a quarter of each, rounded to bf16. -/
def effs (d : Vec F S28x512 .i16) (sc : Vec F S1x16x512 .i8) (kb : Nat) (h : kb < 28) : FVec F S16x512 .bf16 :=
  truncf .bf16 (mulf (mulf
    (broadcastTo S16x512 (extractStridedSlice S1x512 ![kb / 2, 0] (decode (half (kb % 2) (words d)))
      (slices_row (kb / 2) (by omega))) broadcasts_S1x512_S16x512)
    (sitofp .f32 (shapeCast S16x512 sc shapeCasts_S1x16x512_S16x512)))
    (broadcast S16x512 (Scalar.ofBits .f32 0x3E800000#32))) bitsLt_bf16_f32

/-- One superblock's rows lie inside the scratch. -/
theorem inb_store (kb : Nat) (h : kb < 28) : ∀ a, (![kb, 0, 0, 0] : Fin 4 → Nat) a + S1x16x2x512.size a ≤ S28x16x2x512.size a :=
  fun a => by fin_cases a; exacts [h, Nat.le_refl 16, Nat.le_refl 2, Nat.le_refl 512]

/-- What superblock `kb` stores into the scratch: its scales, each in both halves of a pair. -/
def piece (e : FVec F S16x512 .bf16) (kb : Nat) (h : kb < 28) : View.Piece (Elt F) S28x16x2x512 .bf16 :=
  ⟨Rect.unit (s := S28x16x2x512) ![kb, 0, 0, 0] S1x16x2x512.size (inb_store kb h),
    interleaveRows S1x16x2x512
      (shapeCast S1x16x1x512 (shapeCast S1x16x512 e shapeCasts_S16x512_S1x16x512) shapeCasts_S1x16x512_S1x16x1x512)
      (shapeCast S1x16x1x512 (shapeCast S1x16x512 e shapeCasts_S16x512_S1x16x512) shapeCasts_S1x16x512_S1x16x1x512)
      bitcasts_S1x16x2x512_w16_S1x16x1x512_w32⟩

/-- The scratch after the first `n` superblocks' stores, the last store first. -/
def stores (e : (kb : Nat) → kb < 28 → FVec F S16x512 .bf16) : (n : Nat) → n ≤ 28 → List (View.Piece (Elt F) S28x16x2x512 .bf16)
  | 0, _ => []
  | n + 1, h => piece (e n h) n h :: stores e n (Nat.le_of_succ_le h)

/-- The low six bits of the weights' shifted codes: field `f`'s rows of the low nibbles, or of the high ones. -/
def low (f : Nat) (ql : IVec S32x256 32) : IVec S16x256 32 :=
  match f with
  | 0 => extractStridedSlice S16x256 ![0, 0] (andi (shli ql (broadcast S32x256 2#32)) (broadcast S32x256 1010580540#32))
      slices_S32x256_o0_0_S16x256
  | 1 => extractStridedSlice S16x256 ![16, 0] (andi (shli ql (broadcast S32x256 2#32)) (broadcast S32x256 1010580540#32))
      slices_S32x256_o16_0_S16x256
  | 2 => extractStridedSlice S16x256 ![0, 0] (andi (shrui ql (broadcast S32x256 2#32)) (broadcast S32x256 1010580540#32))
      slices_S32x256_o0_0_S16x256
  | _ => extractStridedSlice S16x256 ![16, 0] (andi (shrui ql (broadcast S32x256 2#32)) (broadcast S32x256 1010580540#32))
      slices_S32x256_o16_0_S16x256

/-- The top two bits of field `f`'s shifted codes, in place. -/
def high (f : Nat) (qh : IVec S16x256 32) : IVec S16x256 32 :=
  match f with
  | 0 => andi (shli qh (broadcast S16x256 6#32)) (broadcast S16x256 3233857728#32)
  | 1 => andi (shli qh (broadcast S16x256 4#32)) (broadcast S16x256 3233857728#32)
  | 2 => andi (shli qh (broadcast S16x256 2#32)) (broadcast S16x256 3233857728#32)
  | _ => andi qh (broadcast S16x256 3233857728#32)

/-- The words of the top bits, their sign bit flipped. -/
def qhWords (qh : Vec F S1x64x256 .i8) : IVec S16x256 32 :=
  xori (bitcast S16x256 32 (shapeCast S64x256 qh shapeCasts_S1x64x256_S64x256 : IVec S64x256 8)
    bitcasts_S64x256_w8_S16x256_w32) (broadcast S16x256 2863311530#32)

/-- The words of the low nibbles, columns along the lanes. -/
def qlWords (ql : Vec F S1x256x128 .i8) : IVec S32x256 32 :=
  bitcast S32x256 32 (transpose S128x256 [1, 0] (shapeCast S256x128 ql shapeCasts_S1x256x128_S256x128 : IVec S256x128 8)
    transposes_S256x128_p1_0_S128x256 : IVec S128x256 8) bitcasts_S128x256_w8_S32x256_w32

/-- Field `f`'s 64 rows of centred codes, times four. -/
def code (f : Nat) (qh : Vec F S1x64x256 .i8) (ql : Vec F S1x256x128 .i8) : FVec F S64x256 .bf16 :=
  sitofp .bf16 (bitcast S64x256 8 (ori (low f (qlWords ql)) (high f (qhWords qh))) bitcasts_S16x256_w32_S64x256_w8 : IVec S64x256 8)

/-- The scales loaded back for one column tile, each twice in a row. -/
def rows (es : Vec F S1x16x2x256 .bf16) : FVec F S32x256 .bf16 :=
  interleaveRows S32x256
    (shapeCast S16x256 (shapeCast S1x16x256 (rowsOfParity 0 S1x16x1x256 es bitcasts_S1x16x2x256_w16_S1x16x1x256_w32)
      shapeCasts_S1x16x1x256_S1x16x256) shapeCasts_S1x16x256_S16x256)
    (shapeCast S16x256 (shapeCast S1x16x256 (rowsOfParity 1 S1x16x1x256 es bitcasts_S1x16x2x256_w16_S1x16x1x256_w32)
      shapeCasts_S1x16x1x256_S1x16x256) shapeCasts_S1x16x256_S16x256)
    bitcasts_S32x256_w16_S16x256_w32

/-- A sub-block's rows lie inside their field. -/
theorem slices_sub (s : Nat) (h : s < 4) : S64x256.Slices ![16 * s, 0] S16x256 :=
  ⟨rfl, fun a => by fin_cases a; exacts [show 16 * s + 16 ≤ 64 by omega, Nat.le_refl 256]⟩

/-- A sub-block's scale is a row of the loaded scales. -/
theorem slices_scale (r : Nat) (h : r < 16) : S32x256.Slices ![2 * r, 0] S1x256 :=
  ⟨rfl, fun a => by fin_cases a; exacts [show 2 * r + 1 ≤ 32 by omega, Nat.le_refl 256]⟩

/-- Sub-block `s` of field `f`: sixteen rows of weights. -/
def sub (qh : Vec F S1x64x256 .i8) (ql : Vec F S1x256x128 .i8) (es : Vec F S1x16x2x256 .bf16) (f s : Nat) (hf : f < 4)
    (hs : s < 4) : FVec F S16x256 .bf16 :=
  mulf (extractStridedSlice S16x256 ![16 * s, 0] (code f qh ql) (slices_sub s hs))
    (broadcastTo S16x256 (shapeCast S1x256 (extractStridedSlice S1x256 ![2 * (4 * f + s), 0] (rows es)
      (slices_scale (4 * f + s) (by omega))) shapeCasts_S1x256_S1x256) broadcasts_S1x256_S16x256)

/-- One superblock's tile of weights: the sixteen sub-blocks one below the other. -/
def tile (qh : Vec F S1x64x256 .i8) (ql : Vec F S1x256x128 .i8) (es : Vec F S1x16x2x256 .bf16) : FVec F S256x256 .bf16 :=
  concatenate S256x256 0
    (List.ofFn fun r : Fin 16 => (⟨S16x256, sub qh ql es (r.val / 4) (r.val % 4) (by omega) (by omega)⟩ : (s : Shape) × (s.Idx → F .bf16)))
    concatenates_S16x256_S16x256_S16x256_S16x256_S16x256_S16x256_S16x256_S16x256_S16x256_S16x256_S16x256_S16x256_S16x256_S16x256_S16x256_S16x256_S256x256_d0

/-- One superblock's product. -/
def prod (x : Vec F S192x256 .bf16) (qh : Vec F S1x64x256 .i8) (ql : Vec F S1x256x128 .i8) (es : Vec F S1x16x2x256 .bf16) :
    FVec F S192x256 .f32 :=
  matmul dot_S192x256_S256x256_S192x256_1_0_0_1_n_n none (shapeCast S192x256 x shapeCasts_S192x256_S192x256) (tile qh ql es)
    (constant S192x256 .f32 0x00000000#32)

/-- The products of superblocks 0 to `n`, added up in that order. -/
def acc (p : (kb : Nat) → kb < 28 → FVec F S192x256 .f32) : (n : Nat) → n < 28 → FVec F S192x256 .f32
  | 0, h => p 0 h
  | n + 1, h => addf (acc p n (Nat.lt_of_succ_lt h)) (p (n + 1) h)

/-- One superblock's columns lie inside the activations' block. -/
theorem inb_x (kb : Nat) (h : kb < 28) : ∀ a, (![0, 256 * kb] : Fin 2 → Nat) a + S192x256.size a ≤ S192x7168.size a :=
  fun a => by fin_cases a; exacts [Nat.le_refl 192, show 256 * kb + 256 ≤ 7168 by omega]
/-- One superblock's column tile lies inside the low bits' block. -/
theorem inb_ql (kb t : Nat) (h : kb < 28) (ht : t < 2) :
    ∀ a, (![kb, 256 * t, 0] : Fin 3 → Nat) a + S1x256x128.size a ≤ S28x512x128.size a :=
  fun a => by fin_cases a; exacts [h, show 256 * t + 256 ≤ 512 by omega, Nat.le_refl 128]
/-- One superblock's column tile lies inside the top bits' block. -/
theorem inb_qh (kb t : Nat) (h : kb < 28) (ht : t < 2) :
    ∀ a, (![kb, 0, 256 * t] : Fin 3 → Nat) a + S1x64x256.size a ≤ S28x64x512.size a :=
  fun a => by fin_cases a; exacts [h, Nat.le_refl 64, show 256 * t + 256 ≤ 512 by omega]
/-- One superblock lies inside the scales' block. -/
theorem inb_sc (kb : Nat) (h : kb < 28) : ∀ a, (![kb, 0, 0] : Fin 3 → Nat) a + S1x16x512.size a ≤ S28x16x512.size a :=
  fun a => by fin_cases a; exacts [h, Nat.le_refl 16, Nat.le_refl 512]
/-- One superblock's column tile lies inside the scratch. -/
theorem inb_es (kb t : Nat) (h : kb < 28) (ht : t < 2) :
    ∀ a, (![kb, 0, 0, 256 * t] : Fin 4 → Nat) a + S1x16x2x256.size a ≤ S28x16x2x512.size a :=
  fun a => by fin_cases a; exacts [h, Nat.le_refl 16, Nat.le_refl 2, show 256 * t + 256 ≤ 512 by omega]
/-- A column tile lies inside the output's block. -/
theorem inb_y (t : Nat) (ht : t < 2) : ∀ a, (![0, 256 * t] : Fin 2 → Nat) a + S192x256.size a ≤ S192x512.size a :=
  fun a => by fin_cases a; exacts [Nat.le_refl 192, show 256 * t + 256 ≤ 512 by omega]

section Run

variable (c : Dev nD) (i : grid0.Coords) (arg1 : Memref sig .tc .vmem S192x7168 .bf16) (harg1 : arg1.IsWhole)
  (arg2 : Memref sig .tc .vmem S28x512x128 .i8) (harg2 : arg2.IsWhole) (arg3 : Memref sig .tc .vmem S28x64x512 .i8) (harg3 : arg3.IsWhole)
  (arg4 : Memref sig .tc .vmem S28x16x512 .i8) (harg4 : arg4.IsWhole) (arg5 : Memref sig .tc .vmem S28x512 .i16) (harg5 : arg5.IsWhole)
  (arg6 : Memref sig .tc .vmem S192x512 .bf16) (harg6 : arg6.IsWhole) (arg7 : Memref sig .tc .vmem S28x16x2x512 .bf16) (harg7 : arg7.IsWhole)
  (x0 : Vec F S192x7168 .bf16) (x1 : Vec F S28x512x128 .i8) (x2 : Vec F S28x64x512 .i8) (x3 : Vec F S28x16x512 .i8)
  (x4 : Vec F S28x512 .i16)

/-- Superblock `kb`'s scales, from the staged blocks. -/
def runEffs (kb : Nat) (h : kb < 28) : FVec F S16x512 .bf16 :=
  effs (View.readAt (Elt F) arg5.view (Rect.unit (s := S28x512) ![0, 0] S28x512.size inb_S28x512_S28x512_0_0).toLoadRect (harg5.unread x4))
    (View.readAt (Elt F) arg4.view (Rect.unit (s := S28x16x512) ![kb, 0, 0] S1x16x512.size (inb_sc kb h)).toLoadRect (harg4.unread x3)) kb h

/-- Superblock `kb`'s product at column tile `t`, from the staged blocks and the scratch. -/
def runProd (t : Nat) (ht : t < 2) (kb : Nat) (h : kb < 28) : FVec F S192x256 .f32 :=
  prod
    (View.readAt (Elt F) arg1.view (Rect.unit (s := S192x7168) ![0, 256 * kb] S192x256.size (inb_x kb h)).toLoadRect (harg1.unread x0))
    (View.readAt (Elt F) arg3.view (Rect.unit (s := S28x64x512) ![kb, 0, 256 * t] S1x64x256.size (inb_qh kb t h ht)).toLoadRect (harg3.unread x2))
    (View.readAt (Elt F) arg2.view (Rect.unit (s := S28x512x128) ![kb, 256 * t, 0] S1x256x128.size (inb_ql kb t h ht)).toLoadRect (harg2.unread x1))
    (arg7.view.readCov (stores (runEffs arg4 harg4 arg5 harg5 x3 x4) (kb + 1) h)
      (Rect.unit (s := S28x16x2x512) ![kb, 0, 0, 256 * t] S1x16x2x256.size (inb_es kb t h ht)).toLoadRect)

/-- Column tile `t`'s result. -/
def runTile (t : Nat) (ht : t < 2) : FVec F S192x256 .bf16 :=
  truncf .bf16 (acc (runProd arg1 harg1 arg2 harg2 arg3 harg3 arg4 harg4 arg5 harg5 arg7 x0 x1 x2 x3 x4 t ht) 27 (by omega)) bitsLt_bf16_f32

end Run

end Cert.KernelIdeal.Stages

end
-- ==== Proof.Half.lean ====
/- A float16 bit pattern, decoded with float32 bit operations as the kernel does it, denotes what it denotes as a float16. -/
module

public import Idealize.ShloMosaic.PureOps.Ideal.Laws
public import Mathlib.Tactic.NormNum
public import Mathlib.Tactic.Ring
public import Mathlib.Tactic.FieldSimp
public import Mathlib.Tactic.Linarith

@[expose] public section

noncomputable section

namespace Cert.Half

open Idealize.ShloMosaic

/-- The magnitude bits of a pattern, moved to float32's place. -/
def mag (w : BitVec 32) : BitVec 32 := IntOp.shli .vector (IntOp.andi w 32767#32) 13#32

/-- The exponent bits of a pattern, in place. -/
def exp (w : BitVec 32) : BitVec 32 := IntOp.andi w 31744#32

/-- The sign bit of a pattern, in place. -/
def sign (w : BitVec 32) : BitVec 32 := IntOp.andi w 32768#32

/-- The magnitude with float32's bias. -/
def normal (w : BitVec 32) : BitVec 32 :=
  IntOp.addi (mag w) (Scalar.select (IntOp.cmpi .eq (exp w) 31744#32) 1879048192#32 939524096#32)

/-- The kernel's decoding of one pattern in a word's low half, in the operations' own terms. -/
def scalar {F : FTy → Type} [FloatOps F] (w : BitVec 32) : F .f32 :=
  Scalar.select (IntOp.cmpi .eq (exp w) 0#32)
    (FloatOps.mulf (FloatOps.subf (FloatOps.ofBits .f32 (IntOp.addi (mag w) 947912704#32)) (FloatOps.ofBits .f32 0x38800000#32))
      (Scalar.select (IntOp.cmpi .ne (sign w) 0#32) (FloatOps.ofBits .f32 0xBF800000#32) (FloatOps.ofBits .f32 0x3F800000#32)))
    (FloatOps.ofBits .f32 (IntOp.ori (normal w) (IntOp.shli .vector (sign w) 16#32)))

/-- … and over the extended reals. -/
def decode (w : BitVec 32) : EReal :=
  Scalar.select (IntOp.cmpi .eq (exp w) 0#32)
    ((Ideal.ieee 8 23 (IntOp.addi (mag w) 947912704#32) - Ideal.ieee 8 23 0x38800000#32)
      * Scalar.select (IntOp.cmpi .ne (sign w) 0#32) (Ideal.ieee 8 23 0xBF800000#32) (Ideal.ieee 8 23 0x3F800000#32))
    (Ideal.ieee 8 23 (IntOp.ori (normal w) (IntOp.shli .vector (sign w) 16#32)))

/-- A float32 pattern denotes its fields' value. -/
theorem f32_eq (b : BitVec 32) : Ideal.ofBits .f32 b = Ideal.ieee 8 23 b := rfl

/-- The kernel's decoding of one word, with its operations at the extended reals spelt out. -/
theorem scalar_eq (w : BitVec 32) : scalar (F := Ideal) w = decode w := by
  unfold scalar decode
  simp only [Ideal.mulf_def, Ideal.subf_def, Ideal.ofBits_def, f32_eq]

/-- The magnitude's bits, as a number. -/
theorem mag_toNat (h : BitVec 16) : (mag (h.setWidth 32)).toNat = h.toNat % 32768 * 8192 := by
  have h1 : (mag (h.setWidth 32)) = ((h.setWidth 32) &&& 32767#32) <<< 13 := rfl
  rw [h1, BitVec.toNat_shiftLeft, BitVec.toNat_and, BitVec.toNat_setWidth, Nat.shiftLeft_eq]
  have h2 : (32767#32).toNat = 2 ^ 15 - 1 := rfl
  rw [h2, Nat.and_two_pow_sub_one_eq_mod]
  have := h.isLt
  omega

/-- A mask of adjacent bits keeps those digits. -/
theorem and_high (n : Nat) (k m : Nat) : n &&& ((2 ^ m - 1) * 2 ^ k) = n / 2 ^ k % 2 ^ m * 2 ^ k := by
  apply Nat.eq_of_testBit_eq
  intro i
  rw [Nat.testBit_and, ← Nat.shiftLeft_eq, ← Nat.shiftLeft_eq, Nat.testBit_shiftLeft, Nat.testBit_shiftLeft,
    Nat.testBit_mod_two_pow, Nat.testBit_div_two_pow, Nat.testBit_two_pow_sub_one]
  by_cases hk : k ≤ i
  · simp [hk, Bool.and_comm]
  · simp [hk]

/-- The exponent's bits, in place, as a number. -/
theorem exp_toNat (h : BitVec 16) : (exp (h.setWidth 32)).toNat = h.toNat / 1024 % 32 * 1024 := by
  have h1 : (exp (h.setWidth 32)) = (h.setWidth 32) &&& 31744#32 := rfl
  have h2 : (31744#32).toNat = (2 ^ 5 - 1) * 2 ^ 10 := rfl
  rw [h1, BitVec.toNat_and, BitVec.toNat_setWidth, h2, and_high]
  have := h.isLt
  omega

/-- The sign's bit, in place, as a number. -/
theorem sign_toNat (h : BitVec 16) : (sign (h.setWidth 32)).toNat = h.toNat / 32768 * 32768 := by
  have h1 : (sign (h.setWidth 32)) = (h.setWidth 32) &&& 32768#32 := rfl
  have h2 : (32768#32).toNat = (2 ^ 1 - 1) * 2 ^ 15 := rfl
  rw [h1, BitVec.toNat_and, BitVec.toNat_setWidth, h2, and_high]
  have := h.isLt
  omega

/-- What a pattern denotes, from its fields as numbers. -/
theorem ieee_fields (e m : Nat) {w : Nat} (b : BitVec w) (s x f : Nat) (hs : b.toNat / 2 ^ (e + m) % 2 = s)
    (hx : b.toNat / 2 ^ m % 2 ^ e = x) (hf : b.toNat % 2 ^ m = f) :
    Ideal.ieee e m b =
      if x = 2 ^ e - 1 then (if f = 0 then (if s = 1 then ⊥ else ⊤) else ⊥)
      else if x = 0 then (((if s = 1 then -1 else 1 : ℝ) * f * (2 : ℝ) ^ (1 - (2 ^ (e - 1) - 1) - m : Int) : ℝ) : EReal)
      else (((if s = 1 then -1 else 1 : ℝ) * (2 ^ m + f : Nat) * (2 : ℝ) ^ ((x : Int) - (2 ^ (e - 1) - 1) - m) : ℝ) : EReal) := by
  have e1 : (b.extractLsb' (e + m) 1 == 1#1) = decide (s = 1) := by
    rw [Bool.eq_iff_iff, beq_iff_eq, decide_eq_true_iff, ← BitVec.toNat_inj, BitVec.extractLsb'_toNat, Nat.shiftRight_eq_div_pow, hs.symm]
    rfl
  have e2 : (b.extractLsb' m e).toNat = x := by rw [BitVec.extractLsb'_toNat, Nat.shiftRight_eq_div_pow, hx]
  have e3 : (b.extractLsb' 0 m).toNat = f := by
    rw [BitVec.extractLsb'_toNat, Nat.shiftRight_zero, hf]
  unfold Ideal.ieee
  simp only [e1, e2, e3, decide_eq_true_iff]

/-- A select on equality of two words is a choice on equality of their numbers. -/
theorem select_eq (a b : BitVec 32) {α : Type} (x y : α) :
    Scalar.select (IntOp.cmpi .eq a b) x y = if a.toNat = b.toNat then x else y := by
  by_cases h : a = b
  · subst h; simp [Scalar.select, IntOp.cmpi]
  · have h' : ¬ a.toNat = b.toNat := fun q => h (BitVec.eq_of_toNat_eq q)
    have e : (a == b) = false := beq_false_of_ne h
    rw [if_neg h']
    simp only [Scalar.select, IntOp.cmpi, e]
    rfl

/-- A select on inequality likewise. -/
theorem select_ne (a b : BitVec 32) {α : Type} (x y : α) :
    Scalar.select (IntOp.cmpi .ne a b) x y = if a.toNat = b.toNat then y else x := by
  by_cases h : a = b
  · subst h; simp [Scalar.select, IntOp.cmpi]
  · have h' : ¬ a.toNat = b.toNat := fun q => h (BitVec.eq_of_toNat_eq q)
    have e : (a != b) = true := bne_iff_ne.mpr h
    rw [if_neg h']
    simp only [Scalar.select, IntOp.cmpi, e]
    rfl

/-- An or of numbers without a common bit is their sum. -/
theorem or_disjoint (a b k : Nat) (ha : a < 2 ^ k) (hb : b % 2 ^ k = 0) : a ||| b = a + b := by
  obtain ⟨c, rfl⟩ := Nat.dvd_of_mod_eq_zero hb
  rw [Nat.or_comm, ← Nat.two_pow_add_eq_or_of_lt ha, Nat.add_comm]

/-- The float32 pattern of a normal magnitude, as a number. -/
theorem normal_toNat (h : BitVec 16) : (normal (h.setWidth 32)).toNat
    = h.toNat % 32768 * 8192 + (if h.toNat / 1024 % 32 = 31 then 1879048192 else 939524096) := by
  have h1 : normal (h.setWidth 32) = mag (h.setWidth 32)
      + Scalar.select (IntOp.cmpi .eq (exp (h.setWidth 32)) 31744#32) 1879048192#32 939524096#32 := rfl
  rw [h1, BitVec.toNat_add, mag_toNat, select_eq, exp_toNat, show (31744#32).toNat = 31744 from rfl]
  by_cases c : h.toNat / 1024 % 32 = 31
  · rw [if_pos c, if_pos (by omega), show (1879048192#32).toNat = 1879048192 from rfl]; omega
  · rw [if_neg c, if_neg (by omega), show (939524096#32).toNat = 939524096 from rfl]; omega

/-- That pattern with the sign, as a number. -/
theorem word_toNat (h : BitVec 16) :
    (IntOp.ori (normal (h.setWidth 32)) (IntOp.shli .vector (sign (h.setWidth 32)) 16#32)).toNat
      = h.toNat % 32768 * 8192 + (if h.toNat / 1024 % 32 = 31 then 1879048192 else 939524096) + h.toNat / 32768 * 2147483648 := by
  have h1 : IntOp.ori (normal (h.setWidth 32)) (IntOp.shli .vector (sign (h.setWidth 32)) 16#32)
      = normal (h.setWidth 32) ||| ((sign (h.setWidth 32)) <<< 16) := rfl
  rw [h1, BitVec.toNat_or, BitVec.toNat_shiftLeft, sign_toNat, Nat.shiftLeft_eq, normal_toNat]
  have hh := h.isLt
  rw [or_disjoint _ _ 31 (by split <;> omega) (by omega)]
  congr 1
  omega

/-- Every float16 pattern, the infinities and the NaNs among them, is decoded to what it denotes. -/
theorem decode_eq (h : BitVec 16) : decode (h.setWidth 32) = Ideal.ieee 5 10 h := by
  have hh := h.isLt
  obtain ⟨s, hs⟩ : ∃ s, h.toNat / 32768 = s := ⟨_, rfl⟩
  obtain ⟨x, hx⟩ : ∃ x, h.toNat / 1024 % 32 = x := ⟨_, rfl⟩
  obtain ⟨f, hf⟩ : ∃ f, h.toNat % 1024 = f := ⟨_, rfl⟩
  have hm : h.toNat % 32768 = 1024 * x + f := by omega
  have hs2 : s < 2 := by omega
  have hx2 : x < 32 := by omega
  have hf2 : f < 1024 := by omega
  rw [ieee_fields 5 10 h s x f (by norm_num; omega) (by norm_num; omega) (by norm_num; omega)]
  unfold decode
  rw [select_eq, select_ne, exp_toNat, sign_toNat, hx, hs, show (0#32).toNat = 0 from rfl]
  have hone : Ideal.ieee 8 23 0x3F800000#32 = ((1 : ℝ) : EReal) := by
    rw [ieee_fields 8 23 _ 0 127 0 (by decide) (by decide) (by decide)]; norm_num
  have hmone : Ideal.ieee 8 23 0xBF800000#32 = ((-1 : ℝ) : EReal) := by
    rw [ieee_fields 8 23 _ 1 127 0 (by decide) (by decide) (by decide)]; norm_num
  have htiny : Ideal.ieee 8 23 0x38800000#32 = (((2 : ℝ) ^ (-14 : Int) : ℝ) : EReal) := by
    rw [ieee_fields 8 23 _ 0 113 0 (by decide) (by decide) (by decide)]; norm_num
  by_cases c : x = 0
  · subst c
    have hw : (IntOp.addi (mag (h.setWidth 32)) 947912704#32).toNat = f * 8192 + 947912704 := by
      have h1 : IntOp.addi (mag (h.setWidth 32)) 947912704#32 = mag (h.setWidth 32) + 947912704#32 := rfl
      rw [h1, BitVec.toNat_add, mag_toNat, hm, show (947912704#32).toNat = 947912704 from rfl]; omega
    rw [if_pos (by omega), ieee_fields 8 23 _ 0 113 (f * 8192) (by rw [hw]; norm_num; omega) (by rw [hw]; norm_num; omega) (by rw [hw]; norm_num; omega),
      htiny, hone, hmone]
    rw [if_neg (show ¬ (113 = 2 ^ 8 - 1) by omega), if_neg (show ¬ (113 = 0) by omega), if_neg (show ¬ (0 = 2 ^ 5 - 1) by omega),
      if_pos rfl, if_neg (show ¬ (0 = 1) by omega)]
    rcases (show s = 0 ∨ s = 1 by omega) with rfl | rfl
    · rw [if_pos (Nat.zero_mul _), if_neg (show ¬ ((0 : Nat) = 1) from Nat.zero_ne_one), ← EReal.coe_sub, ← EReal.coe_mul, EReal.coe_eq_coe_iff]
      push_cast; norm_num; ring_nf
    · rw [if_neg (show ¬ (1 * 32768 = 0) by norm_num), if_pos rfl, ← EReal.coe_sub, ← EReal.coe_mul, EReal.coe_eq_coe_iff]
      push_cast; norm_num; ring_nf
  · rw [if_neg (by omega)]
    have hw := word_toNat h
    rw [hm, hx, hs] at hw
    by_cases d : x = 31
    · subst d
      rw [if_pos rfl] at hw
      rw [ieee_fields 8 23 _ s 255 (f * 8192) (by rw [hw]; norm_num; omega) (by rw [hw]; norm_num; omega) (by rw [hw]; norm_num; omega)]
      rw [if_pos (show 255 = 2 ^ 8 - 1 from rfl), if_pos (show 31 = 2 ^ 5 - 1 from rfl)]
      by_cases hf0 : f = 0
      · rw [if_pos hf0, if_pos (by omega)]
      · rw [if_neg hf0, if_neg (by omega)]
    · rw [if_neg d] at hw
      rw [ieee_fields 8 23 _ s (x + 112) (f * 8192) (by rw [hw]; norm_num; omega) (by rw [hw]; norm_num; omega) (by rw [hw]; norm_num; omega)]
      have n1 : ¬ (x + 112 = 2 ^ 8 - 1) := by norm_num; omega
      have n2 : ¬ (x = 2 ^ 5 - 1) := by norm_num; omega
      rw [if_neg n1, if_neg n2, if_neg (show ¬ (x + 112 = 0) by omega), if_neg c, EReal.coe_eq_coe_iff]
      have e1 : ((x + 112 : Nat) : Int) - (2 ^ (8 - 1) - 1) - (23 : Nat) = ((x : Int) - (2 ^ (5 - 1) - 1) - (10 : Nat)) + (-13) := by
        push_cast; norm_num; ring_nf
      rw [e1, zpow_add₀ (by norm_num : (2 : ℝ) ≠ 0)]
      push_cast; norm_num; ring_nf

end Cert.Half

end
-- ==== Proof.Scales.lean ====
/- The scales the kernel computes for one superblock, over the extended reals, index by index. -/
module

public import proofs.«01_k».proof.Proof.Stages
public import proofs.«01_k».proof.Proof.Half
public import Idealize.ShloMosaic.Lib.Pointwise
public import Idealize.ShloMosaic.Lib.Bf16PairInverse
public import Idealize.ShloMosaic.Lib.Pipeline.Value

@[expose] public section

noncomputable section

namespace Cert.KernelIdeal.Tile

open Cert.KernelIdeal Cert.KernelIdeal.Gen Cert.KernelIdeal.Stages Idealize.ShloMosaic

/-- A word holds the patterns of superblocks `2 * j` (low half) and `2 * j + 1` (high half). -/
theorem words_apply (d : Vec Ideal S28x512 .i16) (j : Fin 14) (l : Fin 512) :
    words (F := Ideal) d (ix2 j l)
      = (d (ix2 (⟨2 * j.val + 1, by omega⟩ : Fin 28) l) : BitVec 16) ++ (d (ix2 (⟨2 * j.val, by omega⟩ : Fin 28) l) : BitVec 16) := by
  unfold words
  pointwise
  rw [bitcast_16_32]
  congr 2 <;> (funext a; match a with | ⟨0, _⟩ => rfl | ⟨1, _⟩ => rfl)

/-- The low half of a word of two patterns. -/
theorem low_half (a b : BitVec 16) : (a ++ b) &&& 65535#32 = b.setWidth 32 := by
  apply BitVec.eq_of_getLsbD_eq
  intro i hi
  have h : (65535#32).getLsbD i = decide (i < 16) := by
    interval_cases i <;> rfl
  rw [BitVec.getLsbD_and, BitVec.getLsbD_append, h, BitVec.getLsbD_setWidth]
  by_cases c : i < 16
  · simp [c, hi]
  · simp [c, BitVec.getLsbD_of_ge b i (by omega)]

/-- The high half of a word of two patterns. -/
theorem high_half (a b : BitVec 16) : (a ++ b) >>> 16 = a.setWidth 32 := by
  apply BitVec.eq_of_getLsbD_eq
  intro i hi
  rw [BitVec.getLsbD_ushiftRight, BitVec.getLsbD_append, BitVec.getLsbD_setWidth]
  simp [hi]

/-- Superblock `kb`'s pattern, alone in its word. -/
theorem half_apply (d : Vec Ideal S28x512 .i16) (kb : Fin 28) (l : Fin 512) :
    half (kb.val % 2) (words (F := Ideal) d) (ix2 (⟨kb.val / 2, by omega⟩ : Fin 14) l) = (d (ix2 kb l) : BitVec 16).setWidth 32 := by
  rcases (show kb.val % 2 = 0 ∨ kb.val % 2 = 1 by omega) with h | h
  · rw [h]
    have e : (⟨2 * (kb.val / 2), by omega⟩ : Fin 28) = kb := Fin.ext (by show 2 * (kb.val / 2) = _; omega)
    show (words (F := Ideal) d (ix2 (⟨kb.val / 2, by omega⟩ : Fin 14) l)) &&& 65535#32 = _
    rw [words_apply, low_half]
    exact congrArg (fun k => (d (ix2 k l) : BitVec 16).setWidth 32) e
  · rw [h]
    have e : (⟨2 * (kb.val / 2) + 1, by omega⟩ : Fin 28) = kb := Fin.ext (by show 2 * (kb.val / 2) + 1 = _; omega)
    show (words (F := Ideal) d (ix2 (⟨kb.val / 2, by omega⟩ : Fin 14) l)) >>> 16 = _
    rw [words_apply, high_half]
    exact congrArg (fun k => (d (ix2 k l) : BitVec 16).setWidth 32) e

/-- A block is decoded pattern by pattern. -/
theorem decode_scalar {F : FTy → Type} [FloatOps F] (w : IVec S14x512 32) (i : S14x512.Idx) :
    Stages.decode (F := F) w i = Half.scalar (w i) := rfl

/-- What one decoded pattern denotes. -/
theorem decode_apply (w : IVec S14x512 32) (i : S14x512.Idx) : Stages.decode (F := Ideal) w i = Half.decode (w i) :=
  (decode_scalar w i).trans (Half.scalar_eq _)

/-- A signed integer as an extended real. -/
abbrev int {w : Nat} (b : BitVec w) : EReal := ((b.toInt : ℝ) : EReal)

/-- A quarter, as the kernel's constant denotes it. -/
theorem quarter : Ideal.ieee 8 23 0x3E800000#32 = ((1 / 4 : ℝ) : EReal) := by
  rw [Half.ieee_fields 8 23 _ 0 125 0 (by decide) (by decide) (by decide)]; norm_num

/-- The scales, index by index. -/
theorem effs_apply (d : Vec Ideal S28x512 .i16) (sc : Vec Ideal S1x16x512 .i8) (kb : Nat) (h : kb < 28) (r : Fin 16) (l : Fin 512) :
    effs (F := Ideal) d sc kb h (ix2 r l)
      = Ideal.ieee 5 10 (d (ix2 (⟨kb, h⟩ : Fin 28) l)) * int (w := 8) (sc (ix3 0 r l)) * ((1 / 4 : ℝ) : EReal) := by
  unfold effs
  pointwise
  rw [decode_apply]
  have e := half_apply d ⟨kb, h⟩ l
  have e2 : (⟨kb / 2 + 0, by omega⟩ : Fin 14) = ⟨kb / 2, by omega⟩ := rfl
  simp only [e, Half.decode_eq]
  rw [← quarter]
  rfl

end Cert.KernelIdeal.Tile

end
-- ==== Proof.Codes.lean ====
/- The kernel's codes, four to a word, read a byte at a time. -/
module

public import Idealize.ShloMosaic.Lib.BitcastFour
public import Idealize.ShloMosaic.Lib.Pointwise.IndexBridge

@[expose] public section

namespace Cert.Codes

open Idealize.ShloMosaic

/-- Byte `n` of a word, byte 0 the lowest. -/
def byte (n : Nat) (w : BitVec 32) : BitVec 8 := w.extractLsb' (8 * n) 8

/-- A block of words read at eight bits: row `i` is byte `i % 4` of the word at row `i / 4`. -/
theorem bytes_apply {R r n : Nat} (w : (⟨2, ![r, n]⟩ : Shape).Idx → BitVec 32)
    (h : (⟨2, ![r, n]⟩ : Shape).Bitcasts 32 ⟨2, ![R, n]⟩ 8) (i : Fin R) (l : Fin n) (k : Fin r) (hk : k.val = i.val / 4) :
    bitcast ⟨2, ![R, n]⟩ 8 w h (ix2 i l) = byte (i.val % 4) (w (ix2 k l)) := by
  simp only [ix2_eq_valueIdx]
  apply BitVec.eq_of_getLsbD_eq
  intro q hq
  rw [bitcast_getLsbD w h (ValueIdx.ix2 i l) q hq (by decide), byte, BitVec.getLsbD_extractLsb']
  have hrow : (⟨2, ![R, n]⟩ : Shape).row (ValueIdx.ix2 i l) = i.val := rfl
  have e1 : ((⟨2, ![R, n]⟩ : Shape).row (ValueIdx.ix2 i l) * 8 + q) / 32 = k.val := by rw [hrow]; omega
  have e2 : ((⟨2, ![R, n]⟩ : Shape).row (ValueIdx.ix2 i l) * 8 + q) % 32 = 8 * (i.val % 4) + q := by rw [hrow]; omega
  have e3 : h.srcIdx (ValueIdx.ix2 i l) (((⟨2, ![R, n]⟩ : Shape).row (ValueIdx.ix2 i l) * 8 + q) / 32)
      (fun a ha => (Nat.div_lt_iff_lt_mul (by decide)).2 (h.pos_lt _ q hq a ha)) = ValueIdx.ix2 k l := by
    funext c
    match c with
    | ⟨0, _⟩ => exact Fin.ext ((h.srcIdx_row _ _ _ ⟨0, Nat.zero_lt_two⟩ rfl).trans e1)
    | ⟨1, _⟩ => exact Fin.ext (h.srcIdx_other _ _ _ ⟨1, Nat.one_lt_two⟩ (by show ¬ 1 + 2 = 2; omega))
  rw [e3, e2]
  simp [hq]

/-- Four rows of bytes read at thirty-two bits: byte `n` of row `k` is row `4 * k + n`. -/
theorem byte_words {R r n : Nat} (x : (⟨2, ![R, n]⟩ : Shape).Idx → BitVec 8)
    (h : (⟨2, ![R, n]⟩ : Shape).Bitcasts 8 ⟨2, ![r, n]⟩ 32) (k : Fin r) (l : Fin n) (b : Nat) (hb : b < 4) (i : Fin R)
    (hi : i.val = 4 * k.val + b) : byte b (bitcast ⟨2, ![r, n]⟩ 32 x h (ix2 k l)) = x (ix2 i l) := by
  simp only [ix2_eq_valueIdx]
  apply BitVec.eq_of_getLsbD_eq
  intro q hq
  rw [byte, BitVec.getLsbD_extractLsb', bitcast_8_32_getLsbD_ix2 x h k l (8 * b + q) (by omega) i (by omega)]
  have e : (8 * b + q) % 8 = q := by omega
  rw [e]
  simp [hq]

/-- A byte of an or of two words. -/
theorem byte_or (n : Nat) (v w : BitVec 32) : byte n (v ||| w) = byte n v ||| byte n w := by
  apply BitVec.eq_of_getLsbD_eq; intro q hq; simp [byte, hq]

/-- A byte of a word whose bytes' top bits of each pair are flipped. -/
theorem byte_xor (n : Nat) (hn : n < 4) (w : BitVec 32) : byte n (w ^^^ 2863311530#32) = byte n w ^^^ 170#8 := by
  apply BitVec.eq_of_getLsbD_eq; intro q hq
  interval_cases n <;> interval_cases q <;> simp [byte]

/-- A byte of a word shifted left by up to six places, cut to the byte's top two bits. -/
theorem byte_shl (n s : Nat) (hn : n < 4) (hs : s = 0 ∨ s = 2 ∨ s = 4 ∨ s = 6) (w : BitVec 32) :
    byte n ((w <<< s) &&& 3233857728#32) = (byte n w <<< s) &&& 192#8 := by
  apply BitVec.eq_of_getLsbD_eq; intro q hq
  rcases hs with rfl | rfl | rfl | rfl <;> interval_cases n <;> interval_cases q <;> simp [byte]

/-- A byte of a word shifted left by two and cut to the four middle bits of each byte. -/
theorem byte_low (n : Nat) (hn : n < 4) (w : BitVec 32) :
    byte n ((w <<< 2) &&& 1010580540#32) = (byte n w <<< 2) &&& 60#8 := by
  apply BitVec.eq_of_getLsbD_eq; intro q hq
  interval_cases n <;> interval_cases q <;> simp [byte]

/-- A byte of a word shifted right by two and cut to the four middle bits of each byte. -/
theorem byte_high (n : Nat) (hn : n < 4) (w : BitVec 32) :
    byte n ((w >>> 2) &&& 1010580540#32) = (byte n w >>> 2) &&& 60#8 := by
  apply BitVec.eq_of_getLsbD_eq; intro q hq
  interval_cases n <;> interval_cases q <;> simp [byte]

/-- The code of field `f` in the formula of the reference: the nibble of `a` and two bits of `b`. -/
def code (f : Nat) (a b : BitVec 8) : Nat := a.toNat / 16 ^ (f / 2) % 16 + b.toNat / 4 ^ f % 4 * 16

/-- A code has six bits. -/
theorem code_lt (f : Nat) (a b : BitVec 8) : code f a b < 64 := by unfold code; omega

/-- The low nibble of a byte, two places up. -/
theorem low_eq : ∀ a : Fin 256, ((BitVec.ofFin (w := 8) a) <<< 2) &&& 60#8 = BitVec.ofNat 8 (4 * (a.val % 16)) := by decide
/-- The high nibble of a byte, two places up. -/
theorem high_eq : ∀ a : Fin 256, ((BitVec.ofFin (w := 8) a) >>> 2) &&& 60#8 = BitVec.ofNat 8 (4 * (a.val / 16)) := by decide
/-- Field `f`'s two top bits, moved to the byte's top with the sign bit flipped. -/
theorem top_eq : ∀ f : Fin 4, ∀ b : Fin 256, ((BitVec.ofFin (w := 8) b ^^^ 170#8) <<< (6 - 2 * f.val)) &&& 192#8
    = BitVec.ofNat 8 ((b.val / 4 ^ f.val % 4 + 2) % 4 * 64) := by decide
/-- The two parts joined and read as a signed number: four times the centred code. -/
theorem join_eq : ∀ a : Fin 16, ∀ b : Fin 4, (BitVec.ofNat 8 (4 * a.val) ||| BitVec.ofNat 8 ((b.val + 2) % 4 * 64)).toInt
    = 4 * ((a.val + b.val * 16 : Nat) - 32) := by decide

/-- The low bits of field `f`'s byte, in the kernel's place. -/
def lowByte (f : Nat) (a : BitVec 8) : BitVec 8 := if f < 2 then (a <<< 2) &&& 60#8 else (a >>> 2) &&& 60#8

/-- The kernel's byte of field `f`, as a signed number, is four times the centred code. -/
theorem byte_toInt (f : Nat) (hf : f < 4) (a b : BitVec 8) :
    (lowByte f a ||| (((b ^^^ 170#8) <<< (6 - 2 * f)) &&& 192#8)).toInt = 4 * ((code f a b : Int) - 32) := by
  have hb := top_eq ⟨f, hf⟩ b.toFin
  have hl : lowByte f a = BitVec.ofNat 8 (4 * (a.toNat / 16 ^ (f / 2) % 16)) := by
    unfold lowByte
    split
    · rw [show f / 2 = 0 by omega, pow_zero, Nat.div_one]; exact low_eq a.toFin
    · have := a.isLt
      rw [show f / 2 = 1 by omega, pow_one, Nat.mod_eq_of_lt (by omega)]; exact high_eq a.toFin
  have hj := join_eq ⟨a.toNat / 16 ^ (f / 2) % 16, by omega⟩ ⟨b.toNat / 4 ^ f % 4, by omega⟩
  rw [hl]
  refine Eq.trans (congrArg (fun t => (BitVec.ofNat 8 (4 * (a.toNat / 16 ^ (f / 2) % 16)) ||| t).toInt) hb) ?_
  exact hj

/-- The reference's code of field `f`, as a 32-bit word's number. -/
theorem code_toInt (f : Nat) (hf : f < 4) (a b : BitVec 8) :
    ((if f < 2 then a.setWidth 32 &&& 15#32 else a.setWidth 32 >>> 4) ||| (((b.setWidth 32 >>> (2 * f)) &&& 3#32) <<< 4)).toInt
      = (code f a b : Int) := by
  have ha := a.isLt
  have hbl := b.isLt
  have h1 : (((b.setWidth 32 >>> (2 * f)) &&& 3#32) <<< 4).toNat = b.toNat / 4 ^ f % 4 * 16 := by
    rw [BitVec.toNat_shiftLeft, BitVec.toNat_and, BitVec.toNat_ushiftRight, BitVec.toNat_setWidth, show (3#32).toNat = 2 ^ 2 - 1 from rfl,
      Nat.and_two_pow_sub_one_eq_mod, Nat.shiftLeft_eq, Nat.shiftRight_eq_div_pow, Nat.mod_eq_of_lt (show b.toNat < 2 ^ 32 by omega), pow_mul,
      show 2 ^ 2 = 4 from rfl]
    omega
  have h2 : (if f < 2 then a.setWidth 32 &&& 15#32 else a.setWidth 32 >>> 4).toNat = a.toNat / 16 ^ (f / 2) % 16 := by
    split
    · rw [BitVec.toNat_and, BitVec.toNat_setWidth, show (15#32).toNat = 2 ^ 4 - 1 from rfl, Nat.and_two_pow_sub_one_eq_mod,
        show f / 2 = 0 by omega]
      omega
    · rw [BitVec.toNat_ushiftRight, BitVec.toNat_setWidth, Nat.shiftRight_eq_div_pow, show f / 2 = 1 by omega]
      omega
  have h3 := code_lt f a b
  have h4 : ((if f < 2 then a.setWidth 32 &&& 15#32 else a.setWidth 32 >>> 4) ||| (((b.setWidth 32 >>> (2 * f)) &&& 3#32) <<< 4)).toNat
      = code f a b := by
    rw [BitVec.toNat_or, h1, h2, code, show b.toNat / 4 ^ f % 4 * 16 = 2 ^ 4 * (b.toNat / 4 ^ f % 4) by omega, Nat.or_comm,
      ← Nat.two_pow_add_eq_or_of_lt (by omega), Nat.add_comm]
  rw [BitVec.toInt_eq_toNat_of_lt (by rw [h4]; omega), h4]

end Cert.Codes
-- ==== Proof.Tile.lean ====
/- One superblock's tile of weights and its product, over the extended reals, index by index. -/
module

public import proofs.«01_k».proof.Proof.Scales
public import proofs.«01_k».proof.Proof.Codes

@[expose] public section

noncomputable section

namespace Cert.KernelIdeal.Tile

open Cert.KernelIdeal Cert.KernelIdeal.Gen Cert.KernelIdeal.Stages Idealize.ShloMosaic

/-- The bytes of the low nibbles, columns along the lanes. -/
theorem qlWords_byte (ql : Vec Ideal S1x256x128 .i8) (k : Fin 32) (l : Fin 256) (n : Nat) (hn : n < 4) (i : Fin 128)
    (hi : i.val = 4 * k.val + n) : Codes.byte n (qlWords (F := Ideal) ql (ix2 k l)) = ql (ix3 0 l i) := by
  unfold qlWords
  rw [Codes.byte_words _ _ k l n hn i hi]
  pointwise

/-- The bytes of the top bits, their sign bit flipped. -/
theorem qhWords_byte (qh : Vec Ideal S1x64x256 .i8) (k : Fin 16) (l : Fin 256) (n : Nat) (hn : n < 4) (i : Fin 64)
    (hi : i.val = 4 * k.val + n) : Codes.byte n (qhWords (F := Ideal) qh (ix2 k l)) = (qh (ix3 0 i l) : BitVec 8) ^^^ 170#8 := by
  show Codes.byte n (_ ^^^ 2863311530#32) = _
  rw [Codes.byte_xor n hn, Codes.byte_words _ _ k l n hn i hi]
  pointwise

/-- Field `f`'s low bits are a byte of the low nibbles. -/
theorem low_byte (ql : Vec Ideal S1x256x128 .i8) (f : Nat) (hf : f < 4) (j : Fin 64) (l : Fin 256) :
    Codes.byte (j.val % 4) (low f (qlWords (F := Ideal) ql) (ix2 (⟨j.val / 4, by omega⟩ : Fin 16) l))
      = Codes.lowByte f (ql (ix3 0 l (⟨64 * (f % 2) + j.val, by omega⟩ : Fin 128))) := by
  have hj : j.val % 4 < 4 := by omega
  have slice (o : Nat) (v : IVec S32x256 32) (h : S32x256.Slices ![o, 0] S16x256) (ho : o + 16 ≤ 32) :
      extractStridedSlice S16x256 ![o, 0] v h (ix2 (⟨j.val / 4, by omega⟩ : Fin 16) l)
        = v (ix2 (⟨o + j.val / 4, by omega⟩ : Fin 32) l) := by
    pointwise
  have left (o : Nat) (h : S32x256.Slices ![o, 0] S16x256) (ho : o + 16 ≤ 32) (i : Fin 128) (hi : i.val = 4 * o + j.val) :
      Codes.byte (j.val % 4) (extractStridedSlice S16x256 ![o, 0] (andi (shli (qlWords (F := Ideal) ql) (broadcast S32x256 2#32))
        (broadcast S32x256 1010580540#32)) h (ix2 (⟨j.val / 4, by omega⟩ : Fin 16) l)) = (ql (ix3 0 l i) <<< 2 : BitVec 8) &&& 60#8 := by
    rw [slice o _ h ho]
    show Codes.byte (j.val % 4) ((qlWords (F := Ideal) ql _) <<< 2 &&& 1010580540#32) = _
    rw [Codes.byte_low _ hj, qlWords_byte ql _ l _ hj i (by dsimp only; omega)]
  have right (o : Nat) (h : S32x256.Slices ![o, 0] S16x256) (ho : o + 16 ≤ 32) (i : Fin 128) (hi : i.val = 4 * o + j.val) :
      Codes.byte (j.val % 4) (extractStridedSlice S16x256 ![o, 0] (andi (shrui (qlWords (F := Ideal) ql) (broadcast S32x256 2#32))
        (broadcast S32x256 1010580540#32)) h (ix2 (⟨j.val / 4, by omega⟩ : Fin 16) l)) = (ql (ix3 0 l i) >>> 2 : BitVec 8) &&& 60#8 := by
    rw [slice o _ h ho]
    show Codes.byte (j.val % 4) ((qlWords (F := Ideal) ql _) >>> 2 &&& 1010580540#32) = _
    rw [Codes.byte_high _ hj, qlWords_byte ql _ l _ hj i (by dsimp only; omega)]
  interval_cases f
  · exact left 0 slices_S32x256_o0_0_S16x256 (by omega) ⟨64 * (0 % 2) + j.val, by omega⟩ (by dsimp only)
  · exact left 16 slices_S32x256_o16_0_S16x256 (by omega) ⟨64 * (1 % 2) + j.val, by omega⟩ (by dsimp only)
  · exact right 0 slices_S32x256_o0_0_S16x256 (by omega) ⟨64 * (2 % 2) + j.val, by omega⟩ (by dsimp only)
  · exact right 16 slices_S32x256_o16_0_S16x256 (by omega) ⟨64 * (3 % 2) + j.val, by omega⟩ (by dsimp only)

/-- Field `f`'s top bits, in place. -/
theorem high_byte (qh : Vec Ideal S1x64x256 .i8) (f : Nat) (hf : f < 4) (j : Fin 64) (l : Fin 256) :
    Codes.byte (j.val % 4) (high f (qhWords (F := Ideal) qh) (ix2 (⟨j.val / 4, by omega⟩ : Fin 16) l))
      = (((qh (ix3 0 j l) : BitVec 8) ^^^ 170#8) <<< (6 - 2 * f)) &&& 192#8 := by
  have hj : j.val % 4 < 4 := by omega
  rw [← qhWords_byte qh ⟨j.val / 4, by omega⟩ l (j.val % 4) hj j (by dsimp only; omega),
    ← Codes.byte_shl _ _ hj (by omega)]
  interval_cases f
  · rfl
  · rfl
  · rfl
  · show Codes.byte (j.val % 4) ((qhWords (F := Ideal) qh _) &&& 3233857728#32) = _
    simp only [Nat.reduceMul, Nat.reduceSub, BitVec.shiftLeft_zero]

/-- A column's code in field `f`, at row `j` of the field. -/
abbrev field (ql : Vec Ideal S1x256x128 .i8) (qh : Vec Ideal S1x64x256 .i8) (l : Fin 256) (f : Nat) (hf : f < 4) (j : Fin 64) : Nat :=
  Codes.code f (ql (ix3 0 l (⟨64 * (f % 2) + j.val, by omega⟩ : Fin 128))) (qh (ix3 0 j l))

/-- Field `f`'s rows hold four times the centred codes. -/
theorem code_apply (qh : Vec Ideal S1x64x256 .i8) (ql : Vec Ideal S1x256x128 .i8) (f : Nat) (hf : f < 4) (j : Fin 64) (l : Fin 256) :
    Stages.code (F := Ideal) f qh ql (ix2 j l) = ((4 * ((field ql qh l f hf j : ℝ) - 32) : ℝ) : EReal) := by
  have e : (bitcast S64x256 8 (ori (low f (qlWords (F := Ideal) ql)) (high f (qhWords (F := Ideal) qh))) bitcasts_S16x256_w32_S64x256_w8 (ix2 j l)).toInt
      = 4 * ((field ql qh l f hf j : Int) - 32) := by
    rw [Codes.bytes_apply _ _ j l ⟨j.val / 4, by omega⟩ rfl]
    show (Codes.byte _ (_ ||| _)).toInt = _
    rw [Codes.byte_or, low_byte ql f hf, high_byte qh f hf, Codes.byte_toInt f hf]
  show int _ = _
  unfold int
  rw [e]
  push_cast
  rfl

/-- The scales loaded back, one row of each pair. -/
theorem rows_apply (es : Vec Ideal S1x16x2x256 .bf16) (r : Fin 16) (l : Fin 256) :
    rows (F := Ideal) es (ix2 (⟨2 * r.val, by omega⟩ : Fin 32) l) = es (ix4 0 r 0 l) := by
  unfold rows
  pointwise
  rw [if_pos (by omega)]
  have e : (⟨2 * r.val / 2, by omega⟩ : Fin 16) = r := Fin.ext (by show 2 * r.val / 2 = _; omega)
  exact congrArg (fun k => es (ix4 0 k 0 l)) e

/-- One sub-block of weights: four times the centred codes, by their scale. -/
theorem sub_apply (qh : Vec Ideal S1x64x256 .i8) (ql : Vec Ideal S1x256x128 .i8) (es : Vec Ideal S1x16x2x256 .bf16) (f s : Nat)
    (hf : f < 4) (hs : s < 4) (i : Fin 16) (l : Fin 256) :
    sub (F := Ideal) qh ql es f s hf hs (ix2 i l)
      = ((4 * ((field ql qh l f hf ⟨16 * s + i.val, by omega⟩ : ℝ) - 32) : ℝ) : EReal) * es (ix4 0 (⟨4 * f + s, by omega⟩ : Fin 16) 0 l) := by
  unfold sub
  rw [← code_apply qh ql f hf, ← rows_apply es ⟨4 * f + s, by omega⟩ l]
  pointwise

/-- A tile of weights, at row `k`. -/
theorem tile_apply (qh : Vec Ideal S1x64x256 .i8) (ql : Vec Ideal S1x256x128 .i8) (es : Vec Ideal S1x16x2x256 .bf16)
    (k l : Fin 256) : tile (F := Ideal) qh ql es (ix2 k l)
      = ((4 * ((field ql qh l (k.val / 64) (by omega) ⟨k.val % 64, by omega⟩ : ℝ) - 32) : ℝ) : EReal)
        * es (ix4 0 (⟨k.val / 16, by omega⟩ : Fin 16) 0 l) := by
  unfold tile
  refine (concatenate_ofFn_apply (s₁ := S16x256) (0 : Fin S256x256.rank)
    (fun r : Fin 16 => sub (F := Ideal) qh ql es (r.val / 4) (r.val % 4) (by omega) (by omega)) _ rfl 16 rfl (ix2 k l) ⟨k.val / 16, by omega⟩ rfl
    (ix2 (⟨k.val % 16, by omega⟩ : Fin 16) l) rfl
    (fun b hb => by match b with | ⟨0, _⟩ => exact absurd rfl hb | ⟨1, _⟩ => rfl)).trans ?_
  rw [sub_apply]
  have e1 : k.val / 16 / 4 = k.val / 64 := by omega
  have e2 : (⟨4 * (k.val / 64) + k.val / 16 % 4, by omega⟩ : Fin 16) = ⟨k.val / 16, by omega⟩ := Fin.ext (by dsimp only; omega)
  have e3 : (⟨16 * (k.val / 16 % 4) + k.val % 16, by omega⟩ : Fin 64) = ⟨k.val % 64, by omega⟩ := Fin.ext (by dsimp only; omega)
  simp only [e1, e2, e3]

/-- One superblock's product. -/
theorem prod_apply (x : Vec Ideal S192x256 .bf16) (qh : Vec Ideal S1x64x256 .i8) (ql : Vec Ideal S1x256x128 .i8)
    (es : Vec Ideal S1x16x2x256 .bf16) (b : Fin 192) (l : Fin 256) :
    prod (F := Ideal) x qh ql es (ix2 b l) = ∑ k : Fin 256, x (ix2 b k) * tile (F := Ideal) qh ql es (ix2 k l) := by
  unfold prod
  pointwise

/-- The products added up. -/
theorem acc_apply (p : (kb : Nat) → kb < 28 → FVec Ideal S192x256 .f32) (i : S192x256.Idx) :
    ∀ (n : Nat) (h : n < 28), acc (F := Ideal) p n h i = ∑ kb : Fin (n + 1), p kb.val (by omega) i
  | 0, h => by simp [acc]
  | n + 1, h => by
    rw [Fin.sum_univ_castSucc]
    show acc (F := Ideal) p n _ i + p (n + 1) h i = _
    rw [acc_apply p i n]
    rfl

end Cert.KernelIdeal.Tile

end
-- ==== Proof.Spec.lean ====
/- The value of the Q6_K product at one entry, over the extended reals: what the kernel and the reference both compute. -/
module

public import proofs.«01_k».proof.Proof.Half
public import proofs.«01_k».proof.Proof.Codes

@[expose] public section

noncomputable section

namespace Cert.Spec

open Idealize.ShloMosaic

/-- A weight, from its six-bit code, its superblock's float16 scale and its sub-block's int8 scale. -/
def weight (c : Nat) (d : BitVec 16) (s : BitVec 8) : EReal :=
  ((((c : ℝ) - 32 : ℝ)) : EReal) * (Ideal.ieee 5 10 d * ((s.toInt : ℝ) : EReal))

/-- Entry `k` of superblock `kb`, times its weight. -/
def term (x : Fin 28 → Fin 256 → EReal) (ql : Fin 28 → Fin 128 → BitVec 8) (qh : Fin 28 → Fin 64 → BitVec 8)
    (sc : Fin 28 → Fin 16 → BitVec 8) (d : Fin 28 → BitVec 16) (kb : Fin 28) (k : Fin 256) : EReal :=
  x kb k * weight (Codes.code (k.val / 64) (ql kb ⟨64 * (k.val / 64 % 2) + k.val % 64, by omega⟩) (qh kb ⟨k.val % 64, by omega⟩))
    (d kb) (sc kb ⟨k.val / 16, by omega⟩)

/-- A row of the activations times a row of the weights: 28 superblocks of 256 entries. -/
def row (x : Fin 28 → Fin 256 → EReal) (ql : Fin 28 → Fin 128 → BitVec 8) (qh : Fin 28 → Fin 64 → BitVec 8)
    (sc : Fin 28 → Fin 16 → BitVec 8) (d : Fin 28 → BitVec 16) : EReal :=
  ∑ kb : Fin 28, ∑ k : Fin 256, term x ql qh sc d kb k

/-- The factor four in the code and the quarter in the scale cancel. -/
theorem weight_scaled (c : Nat) (d : BitVec 16) (s : BitVec 8) :
    ((4 * ((c : ℝ) - 32) : ℝ) : EReal) * (Ideal.ieee 5 10 d * ((s.toInt : ℝ) : EReal) * ((1 / 4 : ℝ) : EReal)) = weight c d s := by
  unfold weight
  generalize Ideal.ieee 5 10 d * ((s.toInt : ℝ) : EReal) = e
  rw [mul_comm e, ← mul_assoc, ← EReal.coe_mul]
  congr 2
  ring

/-- The row with each superblock in its two halves: the first half's codes hold the low nibbles, the second half's the high ones. -/
theorem row_halves (x : Fin 28 → Fin 256 → EReal) (ql : Fin 28 → Fin 128 → BitVec 8) (qh : Fin 28 → Fin 64 → BitVec 8)
    (sc : Fin 28 → Fin 16 → BitVec 8) (d : Fin 28 → BitVec 16) : row x ql qh sc d = ∑ kb : Fin 28,
      ((∑ j : Fin 128, x kb ⟨j.val, by omega⟩
        * weight (Codes.code (j.val / 64) (ql kb j) (qh kb ⟨j.val % 64, by omega⟩)) (d kb) (sc kb ⟨0 + j.val / 16, by omega⟩))
      + ∑ j : Fin 128, x kb ⟨128 + j.val, by omega⟩
        * weight (Codes.code (2 + j.val / 64) (ql kb j) (qh kb ⟨j.val % 64, by omega⟩)) (d kb) (sc kb ⟨8 + j.val / 16, by omega⟩)) := by
  unfold row
  refine Finset.sum_congr rfl fun kb _ => ?_
  refine (Fin.sum_univ_add (a := 128) (b := 128) (term x ql qh sc d kb)).trans (congrArg₂ (· + ·) ?_ ?_)
  · refine Finset.sum_congr rfl fun j _ => ?_
    show term x ql qh sc d kb ⟨j.val, by omega⟩ = _
    have e1 : (⟨64 * (j.val / 64 % 2) + j.val % 64, by omega⟩ : Fin 128) = j := Fin.ext (by dsimp only; omega)
    have e2 : (⟨j.val / 16, by omega⟩ : Fin 16) = ⟨0 + j.val / 16, by omega⟩ := Fin.ext (by dsimp only; omega)
    unfold term
    simp only [e1, e2]
  · refine Finset.sum_congr rfl fun j _ => ?_
    show term x ql qh sc d kb ⟨128 + j.val, by omega⟩ = _
    have e1 : (⟨64 * ((128 + j.val) / 64 % 2) + (128 + j.val) % 64, by omega⟩ : Fin 128) = j := Fin.ext (by dsimp only; omega)
    have e2 : (⟨(128 + j.val) / 16, by omega⟩ : Fin 16) = ⟨8 + j.val / 16, by omega⟩ := Fin.ext (by dsimp only; omega)
    have e3 : (⟨(128 + j.val) % 64, by omega⟩ : Fin 64) = ⟨j.val % 64, by omega⟩ := Fin.ext (by dsimp only; omega)
    have e4 : (128 + j.val) / 64 = 2 + j.val / 64 := by omega
    unfold term
    simp only [e1, e2, e3]
    rw [e4]

end Cert.Spec

end
-- ==== Proof.Run.lean ====
/- The result of one column tile of the kernel, over the extended reals, index by index. -/
module

public import proofs.«01_k».proof.Proof.Tile
public import proofs.«01_k».proof.Proof.Spec
public import Idealize.ShloMosaic.Lib.Pipeline.ValueKit
public import Idealize.ShloMosaic.Lib.WholeRead

@[expose] public section

noncomputable section

namespace Cert.KernelIdeal.Tile

open Cert.KernelIdeal Cert.KernelIdeal.Gen Cert.KernelIdeal.Stages Idealize.ShloMosaic

/-- A load from a whole buffer, at an index. -/
theorem load_apply {sp : Space} {s : Shape} {e : EltTy} {m : Memref sig .tc sp s e} (h : m.IsWhole)
    (X : s.Idx → Elt Ideal e) (off size : Fin s.rank → Nat) (inb) (x : (Rect.unit (s := s) off size inb).toLoadRect.shape.Idx)
    (i : s.Idx) (hi : ∀ a, (i a : Nat) = off a + x a) :
    View.readAt (Elt Ideal) m.view (Rect.unit (s := s) off size inb).toLoadRect (h.unread X) x = X i := by
  refine (Memref.IsWhole.readAt_unread h X _ x).trans ?_
  refine congrArg X (funext fun a => Fin.ext ?_)
  rw [hi a]
  exact Rect.idx_unit_val off size inb x a

/-- A superblock's piece of the scratch, at an index: both halves of a pair hold the scale. -/
theorem piece_apply (e : FVec Ideal S16x512 .bf16) (kb : Nat) (h : kb < 28) (r : Fin 16) (p : Fin 2) (l : Fin 512) :
    (piece (F := Ideal) e kb h).2 (ix4 0 r p l) = e (ix2 r l) := by
  unfold Stages.piece
  pointwise
  split <;> rfl

/-- The scratch read back at a column tile right after superblock `kb`'s store. -/
theorem stores_read (v : View sig .tc .vmem S28x16x2x512 .bf16) (e : (kb : Nat) → kb < 28 → FVec Ideal S16x512 .bf16)
    (kb t : Nat) (h : kb < 28) (ht : t < 2) (r : Fin 16) (l : Fin 256) :
    v.readCov (Val := Elt Ideal) (stores e (kb + 1) h)
      (Rect.unit (s := S28x16x2x512) ![kb, 0, 0, 256 * t] S1x16x2x256.size (inb_es kb t h ht)).toLoadRect (ix4 0 r 0 l)
      = e kb h (ix2 r (⟨256 * t + l.val, by omega⟩ : Fin 512)) := by
  rw [View.readCov_eq_canon']
  rw [← piece_apply (e kb h) kb h r 0 ⟨256 * t + l.val, by omega⟩]
  have i : (Rect.unit (s := S28x16x2x512) ![kb, 0, 0, 256 * t] S1x16x2x256.size (inb_es kb t h ht)).toLoadRect.idx (ix4 0 r 0 l)
      = (Rect.unit (s := S28x16x2x512) ![kb, 0, 0, 0] S1x16x2x512.size (inb_store kb h)).emb
          (ix4 0 r 0 (⟨256 * t + l.val, by omega⟩ : Fin 512)) := by
    funext a
    apply Fin.ext
    rw [ValueKit.rect_emb_unit_val]
    refine (Rect.idx_unit_val _ _ _ _ a).trans ?_
    match a with
    | ⟨0, _⟩ => rfl
    | ⟨1, _⟩ => rfl
    | ⟨2, _⟩ => rfl
    | ⟨3, _⟩ => exact (Nat.zero_add _).symm
  show View.canon _ _ = _
  rw [i]
  exact View.canon_cons_emb _ _ _ _

section Run

variable (arg1 : Memref sig .tc .vmem S192x7168 .bf16) (harg1 : arg1.IsWhole)
  (arg2 : Memref sig .tc .vmem S28x512x128 .i8) (harg2 : arg2.IsWhole) (arg3 : Memref sig .tc .vmem S28x64x512 .i8) (harg3 : arg3.IsWhole)
  (arg4 : Memref sig .tc .vmem S28x16x512 .i8) (harg4 : arg4.IsWhole) (arg5 : Memref sig .tc .vmem S28x512 .i16) (harg5 : arg5.IsWhole)
  (arg7 : Memref sig .tc .vmem S28x16x2x512 .bf16)
  (x0 : Vec Ideal S192x7168 .bf16) (x1 : Vec Ideal S28x512x128 .i8) (x2 : Vec Ideal S28x64x512 .i8) (x3 : Vec Ideal S28x16x512 .i8)
  (x4 : Vec Ideal S28x512 .i16)

/-- A superblock's scales, from the staged blocks. -/
theorem runEffs_apply (kb : Nat) (h : kb < 28) (r : Fin 16) (l : Fin 512) :
    runEffs (F := Ideal) arg4 harg4 arg5 harg5 x3 x4 kb h (ix2 r l)
      = Ideal.ieee 5 10 (x4 (ix2 (⟨kb, h⟩ : Fin 28) l)) * int (w := 8) (x3 (ix3 (⟨kb, h⟩ : Fin 28) r l)) * ((1 / 4 : ℝ) : EReal) := by
  unfold runEffs
  rw [effs_apply,
    load_apply harg5 x4 ![0, 0] S28x512.size _ _ (ix2 (⟨kb, h⟩ : Fin 28) l)
      (fun a => by match a with | ⟨0, _⟩ => exact (Nat.zero_add _).symm | ⟨1, _⟩ => exact (Nat.zero_add _).symm),
    load_apply harg4 x3 ![kb, 0, 0] S1x16x512.size _ _ (ix3 (⟨kb, h⟩ : Fin 28) r l)
      (fun a => by match a with | ⟨0, _⟩ => rfl | ⟨1, _⟩ => exact (Nat.zero_add _).symm | ⟨2, _⟩ => exact (Nat.zero_add _).symm)]

/-- A superblock's product, from the staged blocks. -/
theorem runProd_apply (t : Nat) (ht : t < 2) (kb : Nat) (h : kb < 28) (b : Fin 192) (l : Fin 256) :
    runProd (F := Ideal) arg1 harg1 arg2 harg2 arg3 harg3 arg4 harg4 arg5 harg5 arg7 x0 x1 x2 x3 x4 t ht kb h (ix2 b l)
      = ∑ k : Fin 256, Spec.term (fun kb k => x0 (ix2 b (⟨256 * kb.val + k.val, by omega⟩ : Fin 7168)))
          (fun kb i => x1 (ix3 kb (⟨256 * t + l.val, by omega⟩ : Fin 512) i))
          (fun kb i => x2 (ix3 kb i (⟨256 * t + l.val, by omega⟩ : Fin 512)))
          (fun kb r => x3 (ix3 kb r (⟨256 * t + l.val, by omega⟩ : Fin 512)))
          (fun kb => x4 (ix2 kb (⟨256 * t + l.val, by omega⟩ : Fin 512))) ⟨kb, h⟩ k := by
  unfold runProd
  rw [prod_apply]
  refine Finset.sum_congr rfl fun k _ => ?_
  rw [tile_apply, stores_read _ _ kb t h ht, runEffs_apply]
  unfold field
  rw [load_apply harg1 x0 ![0, 256 * kb] S192x256.size _ _ (ix2 b (⟨256 * kb + k.val, by omega⟩ : Fin 7168))
      (fun a => by match a with | ⟨0, _⟩ => exact (Nat.zero_add _).symm | ⟨1, _⟩ => rfl),
    load_apply harg2 x1 ![kb, 256 * t, 0] S1x256x128.size _ (ix3 (0 : Fin 1) l _) (ix3 (⟨kb, h⟩ : Fin 28) (⟨256 * t + l.val, by omega⟩ : Fin 512)
        (⟨64 * (k.val / 64 % 2) + k.val % 64, by omega⟩ : Fin 128))
      (fun a => by match a with | ⟨0, _⟩ => rfl | ⟨1, _⟩ => rfl | ⟨2, _⟩ => exact (Nat.zero_add _).symm),
    load_apply harg3 x2 ![kb, 0, 256 * t] S1x64x256.size _ (ix3 (0 : Fin 1) _ l) (ix3 (⟨kb, h⟩ : Fin 28) (⟨k.val % 64, by omega⟩ : Fin 64)
        (⟨256 * t + l.val, by omega⟩ : Fin 512))
      (fun a => by match a with | ⟨0, _⟩ => rfl | ⟨1, _⟩ => exact (Nat.zero_add _).symm | ⟨2, _⟩ => rfl)]
  exact congrArg _ (Spec.weight_scaled _ _ _)

/-- A column tile's result: each entry is a row of the activations times a column's weights. -/
theorem runTile_apply (t : Nat) (ht : t < 2) (b : Fin 192) (l : Fin 256) :
    runTile (F := Ideal) arg1 harg1 arg2 harg2 arg3 harg3 arg4 harg4 arg5 harg5 arg7 x0 x1 x2 x3 x4 t ht (ix2 b l)
      = Spec.row (fun kb k => x0 (ix2 b (⟨256 * kb.val + k.val, by omega⟩ : Fin 7168)))
          (fun kb i => x1 (ix3 kb (⟨256 * t + l.val, by omega⟩ : Fin 512) i))
          (fun kb i => x2 (ix3 kb i (⟨256 * t + l.val, by omega⟩ : Fin 512)))
          (fun kb r => x3 (ix3 kb r (⟨256 * t + l.val, by omega⟩ : Fin 512)))
          (fun kb => x4 (ix2 kb (⟨256 * t + l.val, by omega⟩ : Fin 512))) := by
  refine (acc_apply _ (ix2 b l) 27 (by omega)).trans ?_
  refine Finset.sum_congr rfl fun kb _ => ?_
  exact runProd_apply arg1 harg1 arg2 harg2 arg3 harg3 arg4 harg4 arg5 harg5 arg7 x0 x1 x2 x3 x4 t ht kb.val kb.isLt b l

end Run

end Cert.KernelIdeal.Tile

end
-- ==== Proof.Pieces.lean ====
/- The run's pieces are the staged terms of Stages.lean. -/
module

public import proofs.«01_k».proof.Proof.Stages

@[expose] public section

noncomputable section

namespace Cert.KernelIdeal.Stages

open Cert.KernelIdeal Cert.KernelIdeal.Gen Idealize.ShloMosaic Idealize.ShloMosaic.TcCoe

variable {F : FTy → Type} [FloatOps F]
variable (c : Dev nD) (i : grid0.Coords) (arg1 : Memref sig .tc .vmem S192x7168 .bf16) (harg1 : arg1.IsWhole)
  (arg2 : Memref sig .tc .vmem S28x512x128 .i8) (harg2 : arg2.IsWhole) (arg3 : Memref sig .tc .vmem S28x64x512 .i8) (harg3 : arg3.IsWhole)
  (arg4 : Memref sig .tc .vmem S28x16x512 .i8) (harg4 : arg4.IsWhole) (arg5 : Memref sig .tc .vmem S28x512 .i16) (harg5 : arg5.IsWhole)
  (arg6 : Memref sig .tc .vmem S192x512 .bf16) (harg6 : arg6.IsWhole) (arg7 : Memref sig .tc .vmem S28x16x2x512 .bf16) (harg7 : arg7.IsWhole)
  (x0 : Vec F S192x7168 .bf16) (x1 : Vec F S28x512x128 .i8) (x2 : Vec F S28x64x512 .i8) (x3 : Vec F S28x16x512 .i8)
  (x4 : Vec F S28x512 .i16)

set_option maxRecDepth 65536 in
set_option maxHeartbeats 4000000 in
/-- What the run leaves in the output window, as pieces: the two column tiles. -/
theorem pieces_eq :
    (kernelRun0_A (F := F) c i arg1 harg1 arg2 harg2 arg3 harg3 arg4 harg4 arg5 harg5 arg6 harg6 arg7 harg7 x0 x1 x2 x3 x4).1
      = [⟨Rect.unit (s := S192x512) ![0, 256 * 1] S192x256.size (inb_y 1 (by omega)),
          runTile arg1 harg1 arg2 harg2 arg3 harg3 arg4 harg4 arg5 harg5 arg7 x0 x1 x2 x3 x4 1 (by omega)⟩,
        ⟨Rect.unit (s := S192x512) ![0, 256 * 0] S192x256.size (inb_y 0 (by omega)),
          runTile arg1 harg1 arg2 harg2 arg3 harg3 arg4 harg4 arg5 harg5 arg7 x0 x1 x2 x3 x4 0 (by omega)⟩] := rfl

end Cert.KernelIdeal.Stages

end
-- ==== Proof.KernelValue.lean ====
/- The kernel's result array, over the extended reals, index by index. -/
module

public import proofs.«01_k».proof.Proof.Run
public import proofs.«01_k».proof.Proof.Pieces
public import proofs.«01_k».proof.Proof.Gen.KernelIdeal.Value
public import Idealize.ShloMosaic.Lib.Claim

@[expose] public section

set_option maxRecDepth 16384

noncomputable section

namespace Cert.KernelIdeal.Result

open Cert.KernelIdeal Cert.KernelIdeal.Gen Cert.KernelIdeal.Stages Idealize.ShloMosaic Idealize.ShloMosaic.TcCoe

variable (m : (ℓ : Loc nD τ sig) → Buf (Elt Ideal) ℓ)

/-- Where each window's block lies at a grid point. -/
theorem idx : ∀ t : Fin cfg0.N, win0_0.index t = ![0, 0] ∧ win0_1.index t = ![0, t.val, 0] ∧ win0_2.index t = ![0, 0, t.val]
    ∧ win0_3.index t = ![0, 0, t.val] ∧ win0_4.index t = ![0, t.val] ∧ win0_5.index t = ![0, t.val] :=
  (by decide +kernel : ∀ t : Fin grid0.N, _)

/-- The activations' block is the whole array. -/
theorem block_x (c : Dev nD) (t : Fin cfg0.N) (b : Fin 192) (k : Fin 7168) :
    (iblk m c 0 t : Vec Ideal S192x7168 .bf16) (ix2 b k) = m ((c : Thread nD τ).loc main_arg0) (ix3 b 0 k) := by
  blk_ext! [iblk, idx t]

/-- The low bits' block: the superblocks of 512 columns. -/
theorem block_ql (c : Dev nD) (t : Fin cfg0.N) (kb : Fin 28) (l : Fin 512) (i : Fin 128) (o : Fin 20480) (ho : o.val = t.val * 512 + l.val) :
    (iblk m c 1 t : Vec Ideal S28x512x128 .i8) (ix3 kb l i) = m ((c : Thread nD τ).loc main_arg1) (ix3 o kb i) := by
  blk_ext! [iblk, idx t]

/-- The top bits' block. -/
theorem block_qh (c : Dev nD) (t : Fin cfg0.N) (kb : Fin 28) (i : Fin 64) (l : Fin 512) (o : Fin 20480) (ho : o.val = t.val * 512 + l.val) :
    (iblk m c 2 t : Vec Ideal S28x64x512 .i8) (ix3 kb i l) = m ((c : Thread nD τ).loc main_arg2) (ix3 o kb i) := by
  blk_ext! [iblk, idx t]

/-- The sub-blocks' scales. -/
theorem block_sc (c : Dev nD) (t : Fin cfg0.N) (kb : Fin 28) (r : Fin 16) (l : Fin 512) (o : Fin 20480) (ho : o.val = t.val * 512 + l.val) :
    (iblk m c 3 t : Vec Ideal S28x16x512 .i8) (ix3 kb r l) = m ((c : Thread nD τ).loc main_arg3) (ix3 o kb r) := by
  blk_ext! [iblk, idx t]

/-- The superblocks' scales. -/
theorem block_d (c : Dev nD) (t : Fin cfg0.N) (kb : Fin 28) (l : Fin 512) (o : Fin 20480) (ho : o.val = t.val * 512 + l.val) :
    (iblk m c 4 t : Vec Ideal S28x512 .i16) (ix2 kb l) = m ((c : Thread nD τ).loc main_arg4) (ix2 o kb) := by
  blk_ext! [iblk, idx t]

/-- What the result array holds: each entry a row of the activations times a row of the weights. -/
def entry (x : Vec Ideal S192x1x7168 .bf16) (ql : Vec Ideal S20480x28x128 .i8) (qh : Vec Ideal S20480x28x64 .i8)
    (sc : Vec Ideal S20480x28x16 .i8) (d : Vec Ideal S20480x28 .i16) (b : Fin 192) (o : Fin 20480) : EReal :=
  Spec.row (fun kb k => x (ix3 b 0 (⟨256 * kb.val + k.val, by omega⟩ : Fin 7168))) (fun kb i => ql (ix3 o kb i))
    (fun kb i => qh (ix3 o kb i)) (fun kb r => sc (ix3 o kb r)) (fun kb => d (ix2 o kb))

/-- What a grid point leaves in the output window at a column of its tile `t`. -/
theorem point_apply (c : Dev nD) (p : Fin cfg0.N) (t : Nat) (ht : t < 2) (b : Fin 192) (l : Fin 256) (o : Fin 20480)
    (ho : o.val = p.val * 512 + (256 * t + l.val)) :
    runTile (F := Ideal) (ms0_0 p) (hs0_0 p) (ms0_1 p) (hs0_1 p) (ms0_2 p) (hs0_2 p) (ms0_3 p) (hs0_3 p) (ms0_4 p) (hs0_4 p)
        scM0_0 (iblk m c 0 p) (iblk m c 1 p) (iblk m c 2 p) (iblk m c 3 p) (iblk m c 4 p) t ht (ix2 b l)
      = entry (m ((c : Thread nD τ).loc main_arg0)) (m ((c : Thread nD τ).loc main_arg1)) (m ((c : Thread nD τ).loc main_arg2))
          (m ((c : Thread nD τ).loc main_arg3)) (m ((c : Thread nD τ).loc main_arg4)) b o := by
  rw [Tile.runTile_apply]
  unfold entry
  have e0 (k) := block_x m c p b k
  have e1 (kb i) := block_ql m c p kb ⟨256 * t + l.val, by omega⟩ i o ho
  have e2 (kb i) := block_qh m c p kb i ⟨256 * t + l.val, by omega⟩ o ho
  have e3 (kb r) := block_sc m c p kb r ⟨256 * t + l.val, by omega⟩ o ho
  have e4 (kb) := block_d m c p kb ⟨256 * t + l.val, by omega⟩ o ho
  simp only [e0, e1, e2, e3, e4]

/-- What a grid point leaves in the output window. -/
theorem out_apply (c : Dev nD) (p : Fin cfg0.N) (b : Fin 192) (l : Fin 512) (o : Fin 20480) (ho : o.val = p.val * 512 + l.val) :
    outsAt0 m c p (ix2 b l)
      = entry (m ((c : Thread nD τ).loc main_arg0)) (m ((c : Thread nD τ).loc main_arg1)) (m ((c : Thread nD τ).loc main_arg2))
          (m ((c : Thread nD τ).loc main_arg3)) (m ((c : Thread nD τ).loc main_arg4)) b o := by
  unfold outsAt0 out0_A_5
  rw [View.read_writes_junk_eq_canon, pieces_eq]
  have place (t : Nat) (ht : t < 2) (k : Fin 256) (hk : l.val = 256 * t + k.val) :
      (ix2 b l : S192x512.Idx) = (Rect.unit (s := S192x512) ![0, 256 * t] S192x256.size (inb_y t ht)).emb (ix2 b k) := by
    funext a
    apply Fin.ext
    rw [ValueKit.rect_emb_unit_val]
    match a with
    | ⟨0, _⟩ => exact (Nat.zero_add _).symm
    | ⟨1, _⟩ => exact hk
  by_cases h : l.val < 256
  · rw [View.canon_cons_of_not_mem, place 0 (by omega) ⟨l.val, h⟩ (by dsimp only; omega)]
    · refine (View.canon_cons_emb _ _ _ _).trans ?_
      exact point_apply m c p 0 (by omega) b ⟨l.val, h⟩ o (by dsimp only; omega)
    · rw [Rect.mem_set_unit]
      intro hm
      have := (hm 1).1
      change 256 * 1 ≤ l.val at this
      omega
  · rw [place 1 (by omega) ⟨l.val - 256, by omega⟩ (by dsimp only; omega)]
    refine (View.canon_cons_emb _ _ _ _).trans ?_
    exact point_apply m c p 1 (by omega) b ⟨l.val - 256, by omega⟩ o (by dsimp only; omega)

/-- The kernel's result array. -/
theorem final (c : Dev nD) : (dats m 0 c).arrAt 5 cfg0.N
    = fun j : S192x20480.Idx => entry (m ((c : Thread nD τ).loc main_arg0)) (m ((c : Thread nD τ).loc main_arg1))
        (m ((c : Thread nD τ).loc main_arg2)) (m ((c : Thread nD τ).loc main_arg3)) (m ((c : Thread nD τ).loc main_arg4)) (j 0) (j 1) := by
  refine (dats m 0 c).arrAt_eq_of_covers 5 _ (by decide +kernel) fun t hf y => ?_
  blk_simp
  rw [after0_5]
  have h0 : ((win0_5.blk t).view.emb y 0 : Fin 192) = y 0 := Fin.ext (by blk_simp [idx t])
  have h1 : ((win0_5.blk t).view.emb y 1 : Fin 20480).val = t.val * 512 + (y 1).val := by blk_simp [idx t]
  have e : y = ix2 (y 0 : Fin 192) (y 1 : Fin 512) := by
    funext a
    match a with
    | ⟨0, _⟩ => rfl
    | ⟨1, _⟩ => rfl
  refine (congrArg (outsAt0 m c t) e).trans ((out_apply m c t (y 0) (y 1) _ h1).trans ?_)
  exact congrArg (fun b => entry _ _ _ _ _ b _) h0.symm

end Cert.KernelIdeal.Result

end
-- ==== Proof.RefBody.lean ====
/- The reference's body, over the extended reals, index by index. -/
module

public import proofs.«01_k».proof.Proof.Spec
public import proofs.«01_k».proof.Proof.Gen.ReferenceIdeal.Skeleton
public import Idealize.ShloMosaic.Lib.Pointwise
public import Idealize.ShloMosaic.Lib.Pipeline.ValueKit

@[expose] public section

set_option maxRecDepth 16384

noncomputable section

namespace Cert.ReferenceIdeal.Body

open Cert.ReferenceIdeal Cert.ReferenceIdeal.Gen Idealize.ShloMosaic

section Stages

variable {F : FTy → Type} [FloatOps F]

/-- The sub-blocks' scales. -/
def effs (d : Vec F S20480x28 .i16) (sc : Vec F S20480x28x16 .i8) : FVec F S20480x28x16 .bf16 :=
  truncf .bf16 (mulf (broadcastTo S20480x28x16 (shapeCast S20480x28x1 (extf .f32 (bitcastToFloat .f16 d) bitsLt_f16_f32)
    shapeCasts_S20480x28_S20480x28x1) broadcasts_S20480x28x1_S20480x28x16) (sitofp .f32 sc)) bitsLt_bf16_f32

/-- The weights of one half of each superblock, from their codes and the scales of the half's sub-blocks. -/
def weights (e : FVec F S20480x28x16 .bf16) (c : Vec F S20480x28x128 .i32) (off : Nat)
    (h : S20480x28x16.Slices ![0, 0, off] S20480x28x8) : FVec F S20480x28x128 .bf16 :=
  shapeCast S20480x28x128 (mulf
    (shapeCast S20480x28x8x16 (subf
      (sitofp .bf16 (shapeCast S20480x28x128 c shapeCasts_S20480x28x128_S20480x28x128 : IVec S20480x28x128 32))
      (broadcast S20480x28x128 (Scalar.ofBits .bf16 0x4200#16))) shapeCasts_S20480x28x128_S20480x28x8x16)
    (broadcastTo S20480x28x8x16 (shapeCast S20480x28x8x1 (extractStridedSlice S20480x28x8 ![0, 0, off] e h)
      shapeCasts_S20480x28x8_S20480x28x8x1) broadcasts_S20480x28x8x1_S20480x28x8x16)) shapeCasts_S20480x28x8x16_S20480x28x128

/-- One half's product. -/
def prod (x : Vec F S192x1x28x128 .bf16) (w : FVec F S20480x28x128 .bf16) : FVec F S192x1x20480 .f32 :=
  matmul dot_S192x1x28x128_S20480x28x128_S192x1x20480_32_21_01_0_n_n none
    (shapeCast S192x1x28x128 x shapeCasts_S192x1x28x128_S192x1x28x128) w (constant S192x1x20480 .f32 0x00000000#32)

/-- The first half's product is the body's first. -/
theorem pay_a (d : Vec F S20480x28 .i16) (sc : Vec F S20480x28x16 .i8) (c : Vec F S20480x28x128 .i32) (x : Vec F S192x1x28x128 .bf16) :
    k0_pay3 d sc c x = prod x (weights (effs d sc) c 0 slices_S20480x28x16_o0_0_0_S20480x28x8) := rfl

/-- The second half's product is the body's second. -/
theorem pay_b (d : Vec F S20480x28 .i16) (sc : Vec F S20480x28x16 .i8) (c : Vec F S20480x28x128 .i32) (x : Vec F S192x1x28x128 .bf16) :
    k0_pay4 d sc c x = prod x (weights (effs d sc) c 8 slices_S20480x28x16_o0_0_8_S20480x28x8) := rfl

end Stages

/-- The reference's constant is thirty-two. -/
theorem thirty_two : Ideal.ieee 8 7 0x4200#16 = ((32 : ℝ) : EReal) := by
  rw [Half.ieee_fields 8 7 _ 0 132 0 (by decide) (by decide) (by decide)]; norm_num

/-- A float16 pattern denotes its fields' value. -/
theorem f16_eq (b : BitVec 16) : Ideal.ofBits .f16 b = Ideal.ieee 5 10 b := rfl

/-- A bf16 pattern denotes its fields' value. -/
theorem bf16_eq (b : BitVec 16) : Ideal.ofBits .bf16 b = Ideal.ieee 8 7 b := rfl

/-- A sub-block's scale. -/
theorem effs_apply (d : Vec Ideal S20480x28 .i16) (sc : Vec Ideal S20480x28x16 .i8) (o : Fin 20480) (kb : Fin 28) (r : Fin 16) :
    effs (F := Ideal) d sc (ix3 o kb r)
      = Ideal.ieee 5 10 (d (ix2 o kb)) * ((((sc (ix3 o kb r) : BitVec 8).toInt : ℝ)) : EReal) := by
  unfold effs
  pointwise
  exact congrArg (· * _) (f16_eq _)

/-- A weight of one half. -/
theorem weights_apply (e : FVec Ideal S20480x28x16 .bf16) (c : Vec Ideal S20480x28x128 .i32) (off : Nat)
    (h : S20480x28x16.Slices ![0, 0, off] S20480x28x8) (ho : off + 8 ≤ 16) (o : Fin 20480) (kb : Fin 28) (j : Fin 128) :
    weights (F := Ideal) e c off h (ix3 o kb j)
      = (((((c (ix3 o kb j) : BitVec 32).toInt : ℝ) - 32 : ℝ)) : EReal) * e (ix3 o kb (⟨off + j.val / 16, by omega⟩ : Fin 16)) := by
  unfold weights
  pointwise
  rw [bf16_eq, thirty_two, EReal.coe_sub]
  rfl

/-- One half's product, superblock by superblock. -/
theorem prod_apply (x : Vec Ideal S192x1x28x128 .bf16) (w : FVec Ideal S20480x28x128 .bf16) (b : Fin 192) (o : Fin 20480) :
    prod (F := Ideal) x w (ix3 b 0 o) = ∑ kb : Fin 28, ∑ j : Fin 128, x (ix4 b 0 kb j) * w (ix3 o kb j) := by
  unfold prod
  pointwise
  exact Finset.sum_comm

/-- The body's result is the sum of the two halves' products. -/
theorem sum_apply (u v : FVec Ideal S192x1x20480 .f32) (b : Fin 192) (o : Fin 20480) :
    k0_pay1 (F := Ideal) u v (ix2 b o) = u (ix3 b 0 o) + v (ix3 b 0 o) := by
  unfold k0_pay1
  pointwise

/-- The body's result, superblock by superblock, each in its two halves. -/
theorem pay_apply (d : Vec Ideal S20480x28 .i16) (sc : Vec Ideal S20480x28x16 .i8) (ca cb : Vec Ideal S20480x28x128 .i32)
    (xa xb : Vec Ideal S192x1x28x128 .bf16) (b : Fin 192) (o : Fin 20480) :
    k0_pay1 (F := Ideal) (k0_pay3 d sc ca xa) (k0_pay4 d sc cb xb) (ix2 b o) = ∑ kb : Fin 28,
      ((∑ j : Fin 128, xa (ix4 b 0 kb j)
        * ((((((ca (ix3 o kb j) : BitVec 32).toInt : ℝ) - 32 : ℝ)) : EReal)
          * (Ideal.ieee 5 10 (d (ix2 o kb)) * ((((sc (ix3 o kb (⟨0 + j.val / 16, by omega⟩ : Fin 16)) : BitVec 8).toInt : ℝ)) : EReal))))
      + ∑ j : Fin 128, xb (ix4 b 0 kb j)
        * ((((((cb (ix3 o kb j) : BitVec 32).toInt : ℝ) - 32 : ℝ)) : EReal)
          * (Ideal.ieee 5 10 (d (ix2 o kb)) * ((((sc (ix3 o kb (⟨8 + j.val / 16, by omega⟩ : Fin 16)) : BitVec 8).toInt : ℝ)) : EReal)))) := by
  rw [pay_a, pay_b, sum_apply, prod_apply, prod_apply, ← Finset.sum_add_distrib]
  refine Finset.sum_congr rfl fun kb _ => congrArg₂ (· + ·) ?_ ?_ <;>
    (refine Finset.sum_congr rfl fun j _ => ?_; rw [weights_apply _ _ _ _ (by omega), effs_apply])

end Cert.ReferenceIdeal.Body

end
-- ==== Proof.RefValue.lean ====
/- The reference's result array, over the extended reals, index by index. -/
module

public import proofs.«01_k».proof.Proof.RefBody
public import proofs.«01_k».proof.Proof.Gen.ReferenceIdeal.Value
public import Idealize.ShloMosaic.Lib.Pointwise
public import Idealize.ShloMosaic.Lib.Pipeline.ValueKit
public import Idealize.ShloMosaic.Lib.Claim

@[expose] public section

set_option maxRecDepth 16384

noncomputable section

namespace Cert.ReferenceIdeal.Result

open Cert.ReferenceIdeal Cert.ReferenceIdeal.Gen Idealize.ShloMosaic Idealize.ShloMosaic.TcCoe

variable (m : (ℓ : Loc nD τ sig) → Buf (Elt Ideal) ℓ)

/-- A byte's word shifted right: its sign bit is clear, so the arithmetic shift is the logical one. -/
theorem shift_word (a : BitVec 8) (n : Nat) (hn : n < 32) (v : BitVec 32) (hv : v.toNat = n) :
    IntOp.shrsi .host (a.setWidth 32) v = a.setWidth 32 >>> n := by
  unfold IntOp.shrsi
  rw [if_pos (by omega)]
  have h : (a.setWidth 32).msb = false := by
    rw [BitVec.msb_eq_decide, BitVec.toNat_setWidth, decide_eq_false_iff_not]
    have := a.isLt
    omega
  rw [BitVec.sshiftRight', BitVec.sshiftRight_eq_of_msb_false h, hv]

/-- The shift amount of field `f`'s top bits. -/
theorem shift_amount (f : Nat) (hf : f < 4) : (IntOp.muli (2#32) (BitVec.ofNat 32 f)).toNat = 2 * f := by
  interval_cases f <;> rfl

/-- Each window's block is its whole array. -/
theorem idx : ∀ t : Fin cfg0.N, win0_0.index t = ![0, 0, 0, 0] ∧ win0_1.index t = ![0, 0, 0, 0] ∧ win0_2.index t = ![0, 0, 0]
    ∧ win0_3.index t = ![0, 0, 0] ∧ win0_4.index t = ![0, 0, 0] ∧ win0_5.index t = ![0, 0] ∧ win0_6.index t = ![0, 0] :=
  (by decide +kernel : ∀ t : Fin grid0.N, _)

/-- The first halves of the superblocks of the activations. -/
theorem block_xa (c : Dev nD) (t : Fin cfg0.N) (b : Fin 192) (kb : Fin 28) (j : Fin 128) :
    (iblk m c 0 t : Vec Ideal S192x1x28x128 .bf16) (ix4 b 0 kb j)
      = m ((c : Thread nD τ).loc main_arg0) (ix3 b 0 (⟨256 * kb.val + j.val, by omega⟩ : Fin 7168)) := by
  blk_ext! [iblk, idx t]

/-- The second halves. -/
theorem block_xb (c : Dev nD) (t : Fin cfg0.N) (b : Fin 192) (kb : Fin 28) (j : Fin 128) :
    (iblk m c 1 t : Vec Ideal S192x1x28x128 .bf16) (ix4 b 0 kb j)
      = m ((c : Thread nD τ).loc main_arg0) (ix3 b 0 (⟨256 * kb.val + (128 + j.val), by omega⟩ : Fin 7168)) := by
  blk_ext! [iblk, idx t]

/-- The sub-blocks' scales. -/
theorem block_sc (c : Dev nD) (t : Fin cfg0.N) (o : Fin 20480) (kb : Fin 28) (r : Fin 16) :
    (iblk m c 4 t : Vec Ideal S20480x28x16 .i8) (ix3 o kb r) = m ((c : Thread nD τ).loc main_arg3) (ix3 o kb r) := by
  blk_ext! [iblk, V, idx t]

/-- The superblocks' scales' bit patterns. -/
theorem block_d (c : Dev nD) (t : Fin cfg0.N) (o : Fin 20480) (kb : Fin 28) :
    (iblk m c 5 t : Vec Ideal S20480x28 .i16) (ix2 o kb) = m ((c : Thread nD τ).loc main_arg4) (ix2 o kb) := by
  blk_ext! [iblk, V, idx t]

/-- The first halves' codes: the low nibbles under the top bits of the first two fields. -/
theorem block_ca (c : Dev nD) (t : Fin cfg0.N) (o : Fin 20480) (kb : Fin 28) (j : Fin 128) :
    (iblk m c 2 t : Vec Ideal S20480x28x128 .i32) (ix3 o kb j)
      = ((m ((c : Thread nD τ).loc main_arg1) (ix3 o kb j) : BitVec 8).setWidth 32 &&& 15#32)
        ||| ((((m ((c : Thread nD τ).loc main_arg2) (ix3 o kb (⟨j.val % 64, by omega⟩ : Fin 64)) : BitVec 8).setWidth 32 >>> (2 * (j.val / 64))) &&& 3#32) <<< 4) := by
  blk_simp [iblk, idx t]
  entry_read
  pointwise
  have e : ((View.whole main_v18).slice (win0_2.rect t)).emb (ix3 o kb j) = ix3 o kb j := by
    blk_ext [idx t]
  simp only [e]
  exact congrArg₂ (fun x y : BitVec 32 => x ||| (y &&& 3#32) <<< 4) rfl
    (shift_word _ (2 * (j.val / 64)) (by omega) _ (shift_amount (j.val / 64) (by omega)))

/-- The second halves' codes: the high nibbles under the top bits of the last two fields. -/
theorem block_cb (c : Dev nD) (t : Fin cfg0.N) (o : Fin 20480) (kb : Fin 28) (j : Fin 128) :
    (iblk m c 3 t : Vec Ideal S20480x28x128 .i32) (ix3 o kb j)
      = ((m ((c : Thread nD τ).loc main_arg1) (ix3 o kb j) : BitVec 8).setWidth 32 >>> 4)
        ||| ((((m ((c : Thread nD τ).loc main_arg2) (ix3 o kb (⟨j.val % 64, by omega⟩ : Fin 64)) : BitVec 8).setWidth 32 >>> (2 * (2 + j.val / 64))) &&& 3#32) <<< 4) := by
  blk_simp [iblk, idx t]
  entry_read
  pointwise
  have e : ((View.whole main_v23).slice (win0_3.rect t)).emb (ix3 o kb j) = ix3 o kb j := by
    blk_ext [idx t]
  simp only [e]
  exact congrArg₂ (fun x y : BitVec 32 => x ||| (y &&& 3#32) <<< 4) (shift_word _ 4 (by omega) _ rfl)
    (shift_word _ (2 * (2 + j.val / 64)) (by omega) _ (shift_amount (2 + j.val / 64) (by omega)))

/-- The first half's codes, as integers. -/
theorem code_a (f : Nat) (hf : f < 2) (a b : BitVec 8) :
    ((a.setWidth 32 &&& 15#32) ||| (((b.setWidth 32 >>> (2 * f)) &&& 3#32) <<< 4)).toInt = (Codes.code f a b : Int) := by
  have h := Codes.code_toInt f (by omega) a b
  rwa [if_pos hf] at h

/-- The second half's codes, as integers. -/
theorem code_b (f : Nat) (hf : f < 2) (a b : BitVec 8) :
    ((a.setWidth 32 >>> 4) ||| (((b.setWidth 32 >>> (2 * (2 + f))) &&& 3#32) <<< 4)).toInt = (Codes.code (2 + f) a b : Int) := by
  have h := Codes.code_toInt (2 + f) (by omega) a b
  rwa [if_neg (by omega)] at h

/-- What the result array holds: each entry a row of the activations times a row of the weights. -/
def entry (x : Vec Ideal S192x1x7168 .bf16) (ql : Vec Ideal S20480x28x128 .i8) (qh : Vec Ideal S20480x28x64 .i8)
    (sc : Vec Ideal S20480x28x16 .i8) (d : Vec Ideal S20480x28 .i16) (b : Fin 192) (o : Fin 20480) : EReal :=
  Spec.row (fun kb k => x (ix3 b 0 (⟨256 * kb.val + k.val, by omega⟩ : Fin 7168))) (fun kb i => ql (ix3 o kb i))
    (fun kb i => qh (ix3 o kb i)) (fun kb r => sc (ix3 o kb r)) (fun kb => d (ix2 o kb))

/-- What the body leaves in the output window. -/
theorem out_apply (c : Dev nD) (t : Fin cfg0.N) (b : Fin 192) (o : Fin 20480) :
    k0_pay1 (F := Ideal) (k0_pay3 (iblk m c 5 t) (iblk m c 4 t) (iblk m c 2 t) (iblk m c 0 t))
        (k0_pay4 (iblk m c 5 t) (iblk m c 4 t) (iblk m c 3 t) (iblk m c 1 t)) (ix2 b o)
      = entry (m ((c : Thread nD τ).loc main_arg0)) (m ((c : Thread nD τ).loc main_arg1)) (m ((c : Thread nD τ).loc main_arg2))
          (m ((c : Thread nD τ).loc main_arg3)) (m ((c : Thread nD τ).loc main_arg4)) b o := by
  rw [Body.pay_apply]
  unfold entry
  rw [Spec.row_halves]
  refine Finset.sum_congr rfl fun kb _ => congrArg₂ (· + ·) ?_ ?_
  · refine Finset.sum_congr rfl fun j _ => ?_
    rw [block_xa, block_ca, block_d, block_sc, code_a _ (by omega)]
    rfl
  · refine Finset.sum_congr rfl fun j _ => ?_
    rw [block_xb, block_cb, block_d, block_sc, code_b _ (by omega)]
    rfl

/-- The reference's result array. -/
theorem final (c : Dev nD) : (dats m 0 c).arrAt 6 cfg0.N
    = fun j : S192x20480.Idx => entry (m ((c : Thread nD τ).loc main_arg0)) (m ((c : Thread nD τ).loc main_arg1))
        (m ((c : Thread nD τ).loc main_arg2)) (m ((c : Thread nD τ).loc main_arg3)) (m ((c : Thread nD τ).loc main_arg4)) (j 0) (j 1) := by
  refine (dats m 0 c).arrAt_eq_of_covers 6 _ (by decide +kernel) fun t hf y => ?_
  blk_simp
  rw [after0_6]
  frame_out
  have e : y = ix2 (y 0 : Fin 192) (y 1 : Fin 20480) := by
    funext a
    match a with
    | ⟨0, _⟩ => rfl
    | ⟨1, _⟩ => rfl
  have h0 : ((win0_6.blk t).view.emb y 0 : Fin 192) = y 0 := Fin.ext (by blk_simp [idx t])
  have h1 : ((win0_6.blk t).view.emb y 1 : Fin 20480) = y 1 := Fin.ext (by blk_simp [idx t])
  refine (congrArg _ e).trans ((out_apply m c t (y 0) (y 1)).trans ?_)
  exact congrArg₂ (entry _ _ _ _ _) h0.symm h1.symm

end Cert.ReferenceIdeal.Result

end
-- ==== Proof.Algebraic.lean ====
/- The value claim: over the extended reals the kernel's result array is the reference's. -/
module

public import proofs.«01_k».proof.Defs
public import proofs.«01_k».proof.Proof.KernelValue
public import proofs.«01_k».proof.Proof.RefValue

@[expose] public section

set_option maxRecDepth 65536

noncomputable section

open Idealize.ShloMosaic Idealize.SL.Sem

namespace Cert.Proof

/-- From equal arguments the kernel's idealization and the reference end with the same result array. -/
theorem algebraic : Cert.algebraic_KernelIdeal_ReferenceIdeal := by
  pair_intro
  · run_from Cert.KernelIdeal.Value.run_blocks m g
  · run_from Cert.ReferenceIdeal.Value.run_blocks m' g'
    rw [Cert.KernelIdeal.Result.final m c, Cert.ReferenceIdeal.Result.final m' c]
    rw [(hagree c).1, (hagree c).2.1, (hagree c).2.2.1, (hagree c).2.2.2.1, (hagree c).2.2.2.2]
    rfl

end Cert.Proof

end
-- ==== Proof.lean ====
module

public import proofs.«01_k».proof.Proof.Claims
public import proofs.«01_k».proof.Proof.Algebraic

@[expose] public section

namespace Cert.Proof

/-- Everything the certificate claims. -/
theorem claim : Cert.Claim :=
  ⟨Cert.Kernel.Gen.facts, Cert.KernelIdeal.Gen.facts, Cert.ReferenceIdeal.Gen.facts,
    frame_p, frame_pi, frame_ri, preserves, algebraic⟩

end Cert.Proof
